-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x256 : Shape := ⟨2, ![2048, 256]⟩
abbrev S8x256x2048 : Shape := ⟨3, ![8, 256, 2048]⟩
abbrev S9 : Shape := ⟨1, ![9]⟩
abbrev S_ : Shape := ⟨0, ![]⟩
abbrev S1x256x2048 : Shape := ⟨3, ![1, 256, 2048]⟩
abbrev S1 : Shape := ⟨1, ![1]⟩
abbrev S256x256 : Shape := ⟨2, ![256, 256]⟩
abbrev S1x96x2048 : Shape := ⟨3, ![1, 96, 2048]⟩
abbrev S96x2048 : Shape := ⟨2, ![96, 2048]⟩
abbrev S1x64x2048 : Shape := ⟨3, ![1, 64, 2048]⟩
abbrev S64x2048 : Shape := ⟨2, ![64, 2048]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .bf16⟩
  | .hbm, ⟨1, _⟩ => ⟨S2048x256, .bf16⟩
  | .hbm, ⟨2, _⟩ => ⟨S2048x256, .f32⟩
  | .local _ .vmem, ⟨0, _⟩ => ⟨S256x2048, .bf16⟩
  | .local _ .vmem, ⟨1, _⟩ => ⟨S2048x256, .bf16⟩
  | .local _ .vmem, ⟨2, _⟩ => ⟨S2048x256, .f32⟩
  | .local _ .vmem, ⟨3, _⟩ => ⟨S8x256x2048, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v18 : Index := Scalar.indexCast v2
  let c0_13 : Index := 0#32
  let c0_14 : Index := 0#32
  ![v18.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let c0_i32_20 : BitVec 32 := 0#32
  ![v2.toNat, 0, 0]
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_17 : BitVec 32 := 1#32
  let v22 : BitVec 32 := Scalar.muli v3 c1_i32_17
  let v23 : BitVec 32 := Scalar.addi c0_i32_18 v22
  v23.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_25 : BitVec 32 := 1#32
  let v32 : BitVec 32 := Scalar.muli v4 c1_i32_25
  let v33 : BitVec 32 := Scalar.addi c0_i32_26 v32
  v33.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_32 : BitVec 32 := 1#32
  let v42 : BitVec 32 := Scalar.muli v5 c1_i32_32
  let v43 : BitVec 32 := Scalar.addi c0_i32_33 v42
  v43.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v69 : BitVec 32 := Scalar.muli v2 c256_i32
  let v70 : Index := Scalar.indexCast v69
  let c0_44 : Index := 0#32
  ![v70.toNat, 0]
def k0_off4 (d0 : Dev nD) (c3_i32_45 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v72 : BitVec 32 := Scalar.xori v2 c3_i32_45
  let c0_i32_60 : BitVec 32 := 0#32
  let c0_i32_61 : BitVec 32 := 0#32
  ![v72.toNat, 0, 0]
def k0_off4_at (r : Fin 3) : BitVec 32 :=
  if r.val < 1 then
    3#32
  else
    if r.val < 2 then
      4#32
    else
      1#32
def k0_dev7 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_58 : BitVec 32 := 1#32
  let v83 : BitVec 32 := Scalar.muli v3 c1_i32_58
  let v84 : BitVec 32 := Scalar.addi c0_i32_59 v83
  v84.toNat
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_74 : BitVec 32 := 1#32
  let v101 : BitVec 32 := Scalar.muli v4 c1_i32_74
  let v102 : BitVec 32 := Scalar.addi c0_i32_75 v101
  v102.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_89 : BitVec 32 := 1#32
  let v119 : BitVec 32 := Scalar.muli v5 c1_i32_89
  let v120 : BitVec 32 := Scalar.addi c0_i32_90 v119
  v120.toNat
def k0_off5 (d0 : Dev nD) (c1_i32_95 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v129 : BitVec 32 := Scalar.xori v2 c1_i32_95
  let v132 : Index := Scalar.indexCast v129
  let c0_98 : Index := 0#32
  let c0_99 : Index := 0#32
  ![v132.toNat, 0, 0]
def k0_off6 (d0 : Dev nD) (c1_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v129 : BitVec 32 := Scalar.xori v2 c1_i32_95
  let c256_i32_105 : BitVec 32 := 256#32
  let v149 : BitVec 32 := Scalar.muli v129 c256_i32_105
  let v150 : Index := Scalar.indexCast v149
  let c0_106 : Index := 0#32
  ![v150.toNat, 0]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v192 : BitVec 32 := Scalar.xori v2 c7_i32
  let c0_i32_138 : BitVec 32 := 0#32
  let c0_i32_139 : BitVec 32 := 0#32
  ![v192.toNat, 0, 0]
def k0_dev10 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_136 : BitVec 32 := 1#32
  let v203 : BitVec 32 := Scalar.muli v3 c1_i32_136
  let v204 : BitVec 32 := Scalar.addi c0_i32_137 v203
  v204.toNat
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_125 : BitVec 32 := 5#32
  let v193 : BitVec 32 := Scalar.xori v2 c5_i32_125
  let c96_i32 : BitVec 32 := 96#32
  let c0_i32_154 : BitVec 32 := 0#32
  ![v193.toNat, 96, 0]
def k0_dev11 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_152 : BitVec 32 := 1#32
  let v221 : BitVec 32 := Scalar.muli v4 c1_i32_152
  let v222 : BitVec 32 := Scalar.addi c0_i32_153 v221
  v222.toNat
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_126 : BitVec 32 := 2#32
  let v194 : BitVec 32 := Scalar.xori v2 c2_i32_126
  let c192_i32 : BitVec 32 := 192#32
  let c0_i32_169 : BitVec 32 := 0#32
  ![v194.toNat, 192, 0]
def k0_dev12 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_167 : BitVec 32 := 1#32
  let v239 : BitVec 32 := Scalar.muli v5 c1_i32_167
  let v240 : BitVec 32 := Scalar.addi c0_i32_168 v239
  v240.toNat
abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdealMesh.lean ====
/-
# The geometry of the gather

Who talks to whom and about which rows: the neighbour each of a device's nine copies goes to, the slot and rows of the
gathered array each copy moves, and the equalities between the printed offsets and these tables.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Gather

open Cert.KernelIdeal Cert.KernelIdeal.Gen
open Idealize.ShloMosaic Idealize.ShloMosaic.TcCoe

/-! ## Devices -/

/-- The device whose place differs from `c`'s by the mask `k`. -/
def flip (c : Dev nD) (k : Fin 8) : Dev nD := ⟨c.val ^^^ k.val, Nat.xor_lt_two_pow (n := 3) c.isLt k.isLt⟩

/-- The mask of direction `d`: the three neighbours a device talks to. -/
def dirMask : Fin 3 → Fin 8 := ![1, 3, 4]
/-- The mask from a sender to the receiver of its copy `j`; the copies go round by round, three directions each. -/
def hop : Fin 9 → Fin 8 := ![1, 3, 4, 1, 3, 4, 1, 3, 4]
/-- The mask from the RECEIVER of copy `j` to the slot it lands in. -/
def inMask : Fin 9 → Fin 8 := ![1, 3, 4, 2, 7, 5, 6, 6, 6]
/-- The mask from the SENDER of copy `j` to the slot it is taken from. -/
def outMask : Fin 9 → Fin 8 := ![0, 0, 0, 3, 4, 1, 7, 5, 2]
/-- The rows of the slot that copy `j` moves: from `rowLo j` on, -/
def rowLo : Fin 9 → ℕ := ![0, 0, 0, 0, 0, 0, 0, 96, 192]
/-- below `rowHi j`. -/
def rowHi : Fin 9 → ℕ := ![256, 256, 256, 256, 256, 256, 96, 192, 256]
/-- The shape copy `j` moves. -/
def shp : Fin 9 → Shape := ![S256x2048, S256x2048, S256x2048, S256x2048, S256x2048, S256x2048, S96x2048, S96x2048, S64x2048]

/-- Flipping by a mask twice comes back. -/
theorem flip_flip (c : Dev nD) (k : Fin 8) : flip (flip c k) k = c := by revert c k; decide +kernel
/-- Flipping by no mask stays. -/
theorem flip_zero (c : Dev nD) : flip c 0 = c := by revert c; decide
/-- A sender and its receiver name the same slot for a copy. -/
theorem slot_eq (c : Dev nD) (j : Fin 9) : flip (flip c (hop j)) (inMask j) = flip c (outMask j) := by revert c j; decide +kernel
/-- Different masks lead to different devices. -/
theorem flip_inj {c : Dev nD} {k k' : Fin 8} (h : flip c k = flip c k') : k = k' := by revert c k k'; decide +kernel
/-- Every device is some mask away. -/
theorem exists_flip (c s : Dev nD) : ∃ k : Fin 8, s = flip c k := by revert c s; decide +kernel

/-- Flipping by a mask, as a permutation of the devices. -/
def flipE (k : Fin 8) : Dev nD ≃ Dev nD := ⟨fun c => flip c k, fun c => flip c k, fun c => flip_flip c k, fun c => flip_flip c k⟩

/-! ## The printed devices -/

/-- The three signals go to the three neighbours, -/
theorem dev1_eq (c : Dev nD) : (⟨k0_dev1 c, k0_dev1_lt c⟩ : Dev nD) = flip c (dirMask 0) := by revert c; decide +kernel
theorem dev2_eq (c : Dev nD) : (⟨k0_dev2 c, k0_dev2_lt c⟩ : Dev nD) = flip c (dirMask 1) := by revert c; decide +kernel
theorem dev3_eq (c : Dev nD) : (⟨k0_dev3 c, k0_dev3_lt c⟩ : Dev nD) = flip c (dirMask 2) := by revert c; decide +kernel
/-- and so do the three copies of each round. -/
theorem dev4_eq (c : Dev nD) : (⟨k0_dev4 c, k0_dev4_lt c⟩ : Dev nD) = flip c (hop 0) := by revert c; decide +kernel
theorem dev5_eq (c : Dev nD) : (⟨k0_dev5 c, k0_dev5_lt c⟩ : Dev nD) = flip c (hop 1) := by revert c; decide +kernel
theorem dev6_eq (c : Dev nD) : (⟨k0_dev6 c, k0_dev6_lt c⟩ : Dev nD) = flip c (hop 2) := by revert c; decide +kernel
theorem dev7_eq (c : Dev nD) : (⟨k0_dev7 c, k0_dev7_lt c⟩ : Dev nD) = flip c (hop 3) := by revert c; decide +kernel
theorem dev8_eq (c : Dev nD) : (⟨k0_dev8 c, k0_dev8_lt c⟩ : Dev nD) = flip c (hop 4) := by revert c; decide +kernel
theorem dev9_eq (c : Dev nD) : (⟨k0_dev9 c, k0_dev9_lt c⟩ : Dev nD) = flip c (hop 5) := by revert c; decide +kernel
theorem dev10_eq (c : Dev nD) : (⟨k0_dev10 c, k0_dev10_lt c⟩ : Dev nD) = flip c (hop 6) := by revert c; decide +kernel
theorem dev11_eq (c : Dev nD) : (⟨k0_dev11 c, k0_dev11_lt c⟩ : Dev nD) = flip c (hop 7) := by revert c; decide +kernel
theorem dev12_eq (c : Dev nD) : (⟨k0_dev12 c, k0_dev12_lt c⟩ : Dev nD) = flip c (hop 8) := by revert c; decide +kernel

/-! ## The printed offsets -/

/-- The place in the gathered array where copy `j` of device `c` starts. -/
def src (c : Dev nD) (j : Fin 9) : Fin 3 → ℕ := ![(flip c (outMask j)).val, rowLo j, 0]

theorem off2_eq0 (c : Dev nD) : k0_off2 c = src c 0 := by revert c; decide +kernel
theorem off2_eq1 (c : Dev nD) : k0_off2 c = src c 1 := by revert c; decide +kernel
theorem off2_eq2 (c : Dev nD) : k0_off2 c = src c 2 := by revert c; decide +kernel
theorem off4_eq3 (c : Dev nD) : k0_off4 c 3#32 = src c 3 := by revert c; decide +kernel
theorem off4_eq4 (c : Dev nD) : k0_off4 c 4#32 = src c 4 := by revert c; decide +kernel
theorem off4_eq5 (c : Dev nD) : k0_off4 c 1#32 = src c 5 := by revert c; decide +kernel
theorem off7_eq6 (c : Dev nD) : k0_off7 c = src c 6 := by revert c; decide +kernel
theorem off8_eq7 (c : Dev nD) : k0_off8 c = src c 7 := by revert c; decide +kernel
theorem off9_eq8 (c : Dev nD) : k0_off9 c = src c 8 := by revert c; decide +kernel

/-- The loads of the gathered array read whole slots: -/
theorem off1_eq (c : Dev nD) : k0_off1 c = ![(flip c 0).val, 0, 0] := by revert c; decide +kernel
theorem off5_eq1 (c : Dev nD) : k0_off5 c 1#32 = ![(flip c 1).val, 0, 0] := by revert c; decide +kernel
theorem off5_eq2 (c : Dev nD) : k0_off5 c 2#32 = ![(flip c 2).val, 0, 0] := by revert c; decide +kernel
theorem off5_eq3 (c : Dev nD) : k0_off5 c 3#32 = ![(flip c 3).val, 0, 0] := by revert c; decide +kernel
theorem off5_eq4 (c : Dev nD) : k0_off5 c 4#32 = ![(flip c 4).val, 0, 0] := by revert c; decide +kernel
theorem off5_eq5 (c : Dev nD) : k0_off5 c 5#32 = ![(flip c 5).val, 0, 0] := by revert c; decide +kernel
theorem off5_eq6 (c : Dev nD) : k0_off5 c 6#32 = ![(flip c 6).val, 0, 0] := by revert c; decide +kernel
theorem off5_eq7 (c : Dev nD) : k0_off5 c 7#32 = ![(flip c 7).val, 0, 0] := by revert c; decide +kernel
/-- and the stores write the block of 256 result rows of the slot's device. -/
theorem off3_eq (c : Dev nD) : k0_off3 c = ![256 * (flip c 0).val, 0] := by revert c; decide +kernel
theorem off6_eq1 (c : Dev nD) : k0_off6 c 1#32 = ![256 * (flip c 1).val, 0] := by revert c; decide +kernel
theorem off6_eq2 (c : Dev nD) : k0_off6 c 2#32 = ![256 * (flip c 2).val, 0] := by revert c; decide +kernel
theorem off6_eq3 (c : Dev nD) : k0_off6 c 3#32 = ![256 * (flip c 3).val, 0] := by revert c; decide +kernel
theorem off6_eq4 (c : Dev nD) : k0_off6 c 4#32 = ![256 * (flip c 4).val, 0] := by revert c; decide +kernel
theorem off6_eq5 (c : Dev nD) : k0_off6 c 5#32 = ![256 * (flip c 5).val, 0] := by revert c; decide +kernel
theorem off6_eq6 (c : Dev nD) : k0_off6 c 6#32 = ![256 * (flip c 6).val, 0] := by revert c; decide +kernel
theorem off6_eq7 (c : Dev nD) : k0_off6 c 7#32 = ![256 * (flip c 7).val, 0] := by revert c; decide +kernel

/-! ## The kernel's arrays and their rows -/

abbrev xM : Memref sig .tc .vmem S256x2048 .bf16 := Memref.whole cc0_stg0_0
abbrev wM : Memref sig .tc .vmem S2048x256 .bf16 := Memref.whole cc0_stg1_0
abbrev oM : Memref sig .tc .vmem S2048x256 .f32 := Memref.whole cc0_stg2_0
abbrev gM : Memref sig .tc .vmem S8x256x2048 .bf16 := Memref.whole cc0_scratch0

/-- The elements of rows `lo` to `hi` of slot `s` of the gathered array. -/
def rows (s : Dev nD) (lo hi : ℕ) : Finset S8x256x2048.Idx :=
  Finset.univ.filter fun i => (i 0).val = s.val ∧ lo ≤ (i 1).val ∧ (i 1).val < hi

theorem mem_rows {s : Dev nD} {lo hi : ℕ} {i : S8x256x2048.Idx} :
    i ∈ rows s lo hi ↔ (i 0).val = s.val ∧ lo ≤ (i 1).val ∧ (i 1).val < hi := by
  unfold rows; rw [Finset.mem_filter]; exact and_iff_right (Finset.mem_univ _)

/-- The whole of slot `s`. -/
abbrev slot (s : Dev nD) : Finset S8x256x2048.Idx := rows s 0 256

/-- What copy `j` of device `c` moves. -/
abbrev part (c : Dev nD) (j : Fin 9) : Finset S8x256x2048.Idx := rows (flip c (outMask j)) (rowLo j) (rowHi j)

/-- A unit rectangle at `(s, lo, 0)` of `n` rows covers those rows. -/
theorem rect_rows {off size : Fin 3 → ℕ} {inb : ∀ a, off a + size a ≤ S8x256x2048.size a} {s : Dev nD} {lo hi : ℕ}
    (ho : off = ![s.val, lo, 0]) (hs : size = ![1, hi - lo, 2048]) (h : lo ≤ hi) :
    (Rect.unit (s := S8x256x2048) off size inb).set = rows s lo hi := by
  subst ho; subst hs
  ext i
  rw [Rect.mem_set_unit, mem_rows]
  have h2 : (i 2).val < 2048 := (i 2).isLt
  constructor
  · intro H
    have H0 := H 0; have H1 := H 1
    simp only [Matrix.cons_val_zero, Matrix.cons_val_one] at H0 H1
    omega
  · rintro ⟨h0, h1, h1'⟩ a
    fin_cases a
    · simp; omega
    · simp; omega
    · simp; exact h2

/-- Parts of different slots, and different rows of one slot, are apart. -/
theorem rows_disjoint {s s' : Dev nD} {lo hi lo' hi' : ℕ} (h : s ≠ s' ∨ hi ≤ lo') : Disjoint (rows s lo hi) (rows s' lo' hi') := by
  rw [Finset.disjoint_left]
  intro i hi hi'
  rw [mem_rows] at hi hi'
  rcases h with h | h
  · exact h (Fin.ext (by omega))
  · omega

/-- Rows of a slot split at a row. -/
theorem rows_union (s : Dev nD) {lo mid hi : ℕ} (h : lo ≤ mid) (h' : mid ≤ hi) : rows s lo mid ∪ rows s mid hi = rows s lo hi := by
  ext i; rw [Finset.mem_union, mem_rows, mem_rows, mem_rows]; omega

theorem rows_subset_slot (s : Dev nD) {lo hi : ℕ} (h : hi ≤ 256) : rows s lo hi ⊆ slot s := by
  intro i; rw [mem_rows, mem_rows]; omega

end Cert.KernelIdeal.Gather

end
-- ==== Proof.KernelIdealProtocol.lean ====
/-
# The protocol of the gather

The semaphores' schedule: what every signal and every copy hands over, what each device owes at its start and the levels
that order the waits. A device's barrier cell hears its three neighbours, each handing over the places in its own gathered
array that this device will write; a receive cell hands over the rows that landed, a send cell the source rows back.
-/
module

public import proofs.«01_k».proof.Proof.KernelIdealMesh

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's and the gather's, whose duties are named by the three directions. -/
abbrev UG : Type := URounds (GSem nD τ sig) (Fin 3)
abbrev UU : Type := UR sig nD τ × UG

local notation "𝕄" => MT nD τ sig Unit (Elt F) ℕ UU ℕ

abbrev EP : Emb (UR sig nD τ) (MT nD τ sig Unit (Elt F) ℕ UU ℕ) := embL
abbrev EG : Emb UG (MT nD τ sig Unit (Elt F) ℕ UU ℕ) := embR

variable (m : (ℓ : Loc nD τ sig) → Buf (Elt F) ℓ)

/-! ## Cells -/

/-- The runtime's barrier semaphore, and the two semaphores of copy `j`. -/
abbrev barS : Sem sig := (SemArray.scalar (sig.barrier 0 rfl) : Sems sig S_).sem
def sndS (j : Fin 9) : DmaSem sig := ⟨3 + j.val, by have := j.isLt; show 3 + j.val < 21; omega⟩
def rcvS (j : Fin 9) : DmaSem sig := ⟨12 + j.val, by have := j.isLt; show 12 + j.val < 21; omega⟩

abbrev barCell (c : Dev nD) : GSem nD τ sig := ((c : Thread nD τ), .reg barS)
abbrev sndCell (c : Dev nD) (j : Fin 9) : GSem nD τ sig := ((c : Thread nD τ), .dma (sndS j))
abbrev rcvCell (c : Dev nD) (j : Fin 9) : GSem nD τ sig := ((c : Thread nD τ), .dma (rcvS j))

/-- A device's cells: the barrier's, the nine send cells, the nine receive cells. -/
abbrev Cix : Type := Unit ⊕ (Fin 9 ⊕ Fin 9)
def csem : Cix → SemLoc sig
  | .inl _ => .reg barS
  | .inr (.inl j) => .dma (sndS j)
  | .inr (.inr j) => .dma (rcvS j)
abbrev kcell (ck : Dev nD × Cix) : GSem nD τ sig := ((ck.1 : Thread nD τ), csem ck.2)

/-- What copy `j` credits its two semaphores. -/
def crd (j : Fin 9) : ℕ := (cc0_scratch0 : Ref sig .tc).dmaCredit (shp j) .bf16

/-! ## Contents -/

/-- Device `c`'s block of `x` and of `w`, as staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- A slot of the gathered array: device `s`'s block of `x`. -/
def gblk (s : Dev nD) : FVec F S1x256x2048 .bf16 := k0_pay2 (xstg m s)

/-- An element's place within its slot. -/
def inSlot (i : S8x256x2048.Idx) : S1x256x2048.Idx := fun a =>
  match a with
  | 0 => ⟨0, Nat.one_pos⟩
  | 1 => ⟨(i 1).val, (i 1).isLt⟩
  | 2 => ⟨(i 2).val, (i 2).isLt⟩

/-- The gathered array, once complete: slot `s` is device `s`'s block, on whichever device it is. -/
def gath : (cc0_scratch0 : Ref sig .tc).ty.Contents (Elt F) := fun i => gblk m (i 0) (inSlot i)

/-- Elements `R` of device `c`'s gathered array, final, at share `q`. -/
def held (c : Dev nD) (R : Finset S8x256x2048.Idx) (q : PosShare TreeShare) : sProp 𝕄 :=
  ((c : Thread nD τ).loc cc0_scratch0) ↦[R]{q} gath m
/-- Elements `R` of device `c`'s gathered array at any contents. -/
def free (c : Dev nD) (R : Finset S8x256x2048.Idx) : sProp 𝕄 :=
  iprop(∃ f, ((c : Thread nD τ).loc cc0_scratch0) ↦[R]{fullShare} f)

omit [FloatOps F] in
instance free_storable (c : Dev nD) (R) : BI.Storable (upEmb : UEmb _ 𝕄) (free (F := F) c R) := by unfold free; infer_instance
instance held_storable (c : Dev nD) (R q) : BI.Storable (upEmb : UEmb _ 𝕄) (held m c R q) := by unfold held; infer_instance

/-! ## The schedule -/

/-- The share of its source rows that copy `j` reads through: three copies and a load read a device's own slot, one copy
    and a load every other. -/
def shr : Fin 9 → PosShare TreeShare :=
  ![fullShare.left.left, fullShare.left.right, fullShare.right.left,
    fullShare.left, fullShare.left, fullShare.left, fullShare.left, fullShare.left, fullShare.left]

/-- The copy of round `r` in direction `d`. -/
def cp (r d : Fin 3) : Fin 9 := ⟨3 * r.val + d.val, by omega⟩

/-- Where copy `j` of device `c` lands. -/
def land (c : Dev nD) (j : Fin 9) : sProp 𝕄 := free (flip c (hop j)) (part c j)
/-- What direction `d`'s neighbour hands device `c` with its barrier signal: the places of the three copies `c` sends it. -/
def barPay (c : Dev nD) (d : Fin 3) : sProp 𝕄 := iprop(land (F := F) c (cp 0 d) ∗ land c (cp 1 d) ∗ land c (cp 2 d))
def sndPay (c : Dev nD) (j : Fin 9) : sProp 𝕄 := held m c (part c j) (shr j)
def rcvPay (c : Dev nD) (j : Fin 9) : sProp 𝕄 := held m c (part (flip c (hop j)) j) fullShare

omit [FloatOps F] in
instance barPay_storable (c : Dev nD) (d) : BI.Storable (upEmb : UEmb _ 𝕄) (barPay (F := F) c d) := by
  unfold barPay land; infer_instance
instance sndPay_storable (c : Dev nD) (j) : BI.Storable (upEmb : UEmb _ 𝕄) (sndPay m c j) := by unfold sndPay; infer_instance
instance rcvPay_storable (c : Dev nD) (j) : BI.Storable (upEmb : UEmb _ 𝕄) (rcvPay m c j) := by unfold rcvPay; infer_instance

/-- Which of the gather's semaphores a DMA semaphore is. -/
def role (q : DmaSem sig) : Option (Fin 9 ⊕ Fin 9) :=
  if h : 12 ≤ q.val then some (.inr ⟨q.val - 12, by have : q.val < 21 := q.isLt; omega⟩)
  else if h' : 3 ≤ q.val then some (.inl ⟨q.val - 3, by omega⟩) else none

theorem role_snd (j : Fin 9) : role (sndS j) = some (.inl j) := by revert j; decide
theorem role_rcv (j : Fin 9) : role (rcvS j) = some (.inr j) := by revert j; decide

/-- Which of a device's cells a semaphore is. -/
def cix : SemLoc sig → Option Cix
  | .reg _ => some (.inl ())
  | .dma q => (role q).map .inr

theorem cix_csem (k : Cix) : cix (csem k) = some k := by
  rcases k with u | j | j
  · rfl
  · exact congrArg (Option.map (Sum.inr : Fin 9 ⊕ Fin 9 → Cix)) (role_snd j)
  · exact congrArg (Option.map (Sum.inr : Fin 9 ⊕ Fin 9 → Cix)) (role_rcv j)

theorem csem_injective : Function.Injective csem := fun a b h =>
  Option.some.inj ((cix_csem a).symm.trans ((congrArg cix h).trans (cix_csem b)))

/-- What a cell's duties are, -/
def dutiesOf : Option Cix → Finset (Fin 3)
  | some (.inl _) => Finset.univ
  | some (.inr _) => {0}
  | none => ∅
/-- how much each counts, -/
def amountOf : Option Cix → ℕ
  | some (.inr (.inl j)) => crd j
  | some (.inr (.inr j)) => crd j
  | _ => 1
/-- and what it hands over. -/
def payOf (c : Dev nD) (d : Fin 3) : Option Cix → sProp 𝕄
  | some (.inl _) => barPay (F := F) c d
  | some (.inr (.inl j)) => sndPay m c j
  | some (.inr (.inr j)) => rcvPay m c j
  | none => iprop(emp)

omit [FloatOps F] in
theorem crd_pos (j : Fin 9) : 0 < crd j :=
  sig.dmaCredit_pos _ _ _ _ _ (by revert j; decide +kernel)

/-- One round: every device's cells have their duties at round 0 and none later. -/
def gRd : Rounds.Schedule (GSem nD τ sig) (Fin 3) 𝕄 where
  duties g r := if r = 0 ∧ g.1.2 = .tc then dutiesOf (cix g.2) else ∅
  unitless _ := False
  amount g _ _ := amountOf (cix g.2)
  payload g _ d := payOf m g.1.1 d (cix g.2)
  amount_pos g _ _ _ := by
    rcases cix g.2 with _ | u | j | j
    · exact Nat.one_pos
    · exact Nat.one_pos
    · exact crd_pos j
    · exact crd_pos j

instance gRd_payload_storable (g : GSem nD τ sig) (r : ℕ) (d : Fin 3) :
    BI.Storable (upEmb : UEmb _ 𝕄) ((gRd m).payload g r d) := by
  show BI.Storable upEmb (payOf m g.1.1 d (cix g.2))
  rcases cix g.2 with _ | u | j | j <;> dsimp only [payOf] <;> infer_instance

theorem duties_at (c : Dev nD) (k : Cix) : (gRd m).duties (kcell (c, k)) 0 = dutiesOf (some k) := by
  dsimp only [gRd, kcell]; rw [if_pos ⟨rfl, rfl⟩, cix_csem]
theorem duties_later (g : GSem nD τ sig) : ∀ r, 1 ≤ r → (gRd m).duties g r = ∅ :=
  fun r hr => by dsimp only [gRd]; rw [if_neg fun h => by omega]
theorem amount_at (c : Dev nD) (k : Cix) (d : Fin 3) : (gRd m).amount (kcell (c, k)) 0 d = amountOf (some k) := by
  dsimp only [gRd, kcell]; rw [cix_csem]
theorem payload_at (c : Dev nD) (k : Cix) (d : Fin 3) : (gRd m).payload (kcell (c, k)) 0 d = payOf m c d (some k) := by
  dsimp only [gRd, kcell]; rw [cix_csem]

/-- A barrier cell waits for three units, -/
theorem expect_bar (c : Dev nD) : (gRd m).expect (barCell c) 0 = 3 := by
  unfold Schedule.expect Schedule.amountOf
  rw [show (gRd m).duties (barCell c) 0 = Finset.univ from duties_at m c (.inl ()),
    Finset.sum_congr rfl fun d _ => show (gRd m).amount (barCell c) 0 d = 1 from amount_at m c (.inl ()) d, Finset.sum_const, Finset.card_univ, Fintype.card_fin]
  rfl
/-- a send or receive cell for its copy's credit. -/
theorem expect_xfer (c : Dev nD) (k : Fin 9 ⊕ Fin 9) : (gRd m).expect (kcell (c, .inr k)) 0 = amountOf (some (.inr k)) := by
  unfold Schedule.expect Schedule.amountOf
  rw [show (gRd m).duties (kcell (c, .inr k)) 0 = {0} from duties_at m c (.inr k), Finset.sum_singleton, amount_at]

/-- What the barrier wait brings: the places of all nine copies. -/
theorem rest_bar (c : Dev nD) : bigSep ((gRd m).duties (barCell c) 0 \ ∅) (fun d => (gRd m).payload (barCell c) 0 d)
    = iprop(barPay (F := F) c 0 ∗ barPay c 1 ∗ barPay c 2) := by
  rw [Finset.sdiff_empty, show (gRd m).duties (barCell c) 0 = Finset.univ from duties_at m c (.inl ()),
    bigSep_univ_eq_bigSepL [0, 1, 2] (by decide) (by decide), bigSepL_cons_cons, bigSepL_cons_cons, bigSepL_singleton,
    show ∀ d, (gRd m).payload (barCell c) 0 d = barPay c d from payload_at m c (.inl ())]
  rfl
/-- What the wait on a send or receive cell brings. -/
theorem rest_xfer (c : Dev nD) (k : Fin 9 ⊕ Fin 9) :
    bigSep ((gRd m).duties (kcell (c, .inr k)) 0 \ ∅) (fun d => (gRd m).payload (kcell (c, .inr k)) 0 d) = payOf m c 0 (some (.inr k)) := by
  rw [Finset.sdiff_empty, show (gRd m).duties (kcell (c, .inr k)) 0 = {0} from duties_at m c (.inr k), bigSep_singleton, payload_at]

/-! ## What a device owes, and the levels -/

/-- A device's payments into other devices' cells: a barrier signal in each direction, nine copies. -/
abbrev Pay : Type := Fin 3 ⊕ Fin 9
def bill (c : Dev nD) : Pay → CellTallies nD τ sig Unit
  | .inl d => tallyAt (barCell (flip c (dirMask d))) () 1
  | .inr j => tallyAt (rcvCell (flip c (hop j)) j) () (crd j)
/-- What is owed while the payments `l` are still to come, the head the next. -/
def due (c : Dev nD) : List Pay → CellTallies nD τ sig Unit
  | [] => 0
  | p :: l => due c l + bill c p
/-- The payments in the kernel's order. -/
abbrev pays : List Pay := [.inl 0, .inl 1, .inl 2, .inr 0, .inr 1, .inr 2, .inr 3, .inr 4, .inr 5, .inr 6, .inr 7, .inr 8]

def L (g : GSem nD τ sig) : Finset Unit := if g.1.2 = .tc then {()} else ∅
/-- Staging and send semaphores lowest, then the barrier, then the receives round by round. -/
def lv (g : GSem nD τ sig) (_ : Unit) : ℕ :=
  match cix g.2 with
  | some (.inl _) => 1
  | some (.inr (.inr j)) => 2 + j.val / 3
  | _ => 0
/-- The level of the cell a payment goes to. -/
def payLv : Pay → ℕ
  | .inl _ => 1
  | .inr j => 2 + j.val / 3

theorem L_of_ne (g : GSem nD τ sig) (h : g.1.2 ≠ .tc) : L g = ∅ := if_neg h
theorem L_tc (c : Dev nD) (sm : SemLoc sig) : L ((c : Thread nD τ), sm) = {()} := if_pos rfl

/-- A cell a payment is owed to is a TensorCore's, at the payment's level. -/
theorem bill_pos {c : Dev nD} {p : Pay} {g : GSem nD τ sig} {u : Unit} (h : 0 < bill c p g u) : u ∈ L g ∧ lv g u = payLv p := by
  rcases p with d | j
  · have h' : g = barCell (flip c (dirMask d)) := by
      by_contra hn
      unfold bill at h
      rw [tallyAt_apply, if_neg fun h' => hn h'.1] at h
      exact absurd h (Nat.lt_irrefl 0)
    subst h'
    exact ⟨by rw [L_tc]; exact Finset.mem_singleton_self _, rfl⟩
  · have h' : g = rcvCell (flip c (hop j)) j := by
      by_contra hn
      unfold bill at h
      rw [tallyAt_apply, if_neg fun h' => hn h'.1] at h
      exact absurd h (Nat.lt_irrefl 0)
    subst h'
    refine ⟨by rw [L_tc]; exact Finset.mem_singleton_self _, ?_⟩
    dsimp only [lv]
    rw [show cix (SemLoc.dma (rcvS j)) = some (.inr (.inr j)) from cix_csem (.inr (.inr j))]
    rfl
/-- A cell something is owed to is where one of the payments goes. -/
theorem due_pos {c : Dev nD} {g : GSem nD τ sig} {u : Unit} : ∀ {l : List Pay}, 0 < due c l g u → ∃ p ∈ l, 0 < bill c p g u
  | [], h => absurd h (Nat.lt_irrefl 0)
  | p :: l, h => by
    unfold due at h
    rw [Pi.add_apply, Finsupp.add_apply] at h
    by_cases hp : 0 < bill c p g u
    · exact ⟨p, List.mem_cons_self, hp⟩
    · obtain ⟨p', hp', h'⟩ := due_pos (l := l) (show 0 < due c l g u by rw [Nat.eq_zero_of_not_pos hp, Nat.add_zero] at h; exact h)
      exact ⟨p', List.mem_cons_of_mem _ hp', h'⟩

omit [FloatOps F] in
/-- A device may wait on a cell when everything it still owes is of a higher level. -/
theorem mayWait_due (c : Dev nD) (sm : SemLoc sig) (l : List Pay) (n : ℕ) (hs : lv ((c : Thread nD τ), sm) () ≤ n) (hl : ∀ p ∈ l, n < payLv p) :
    (levAts L lv : sProp 𝕄) ⊢ MayWait (c : Thread nD τ) sm () (due c l) :=
  MayOwe.of_cut (L := L) (lev := lv) n (fun p hp => by rw [Finset.mem_singleton.mp hp, L_tc]; exact Finset.mem_singleton_self _)
    (fun g u hg => by obtain ⟨p, _, h⟩ := due_pos hg; exact (bill_pos h).1)
    (fun p hp => by rw [Finset.mem_singleton.mp hp]; exact hs)
    (fun g u hg => by obtain ⟨p, hp, h⟩ := due_pos hg; rw [(bill_pos h).2]; exact hl p hp)

end Cert.KernelIdeal.Gather

end
-- ==== Proof.KernelIdealSteps.lean ====
/-
# The steps of the gather's body

One statement for each kind of step the kernel takes, for every copy and every slot at once: a copy started, its landing
awaited, its source awaited, a slot read, a block of the result written.
-/
module

public import proofs.«01_k».proof.Proof.KernelIdealProtocol

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Views of the gathered array -/

/-- Rows of one slot of the gathered array, as a copy names them. -/
abbrev piece (off size : Fin 3 → ℕ) (inb : ∀ a, off a + size a ≤ S8x256x2048.size a) (s : Shape)
    (hq : (Rect.unit (s := S8x256x2048) off size inb).shape.Squeezes s) : Memref sig .tc .vmem s .bf16 :=
  (gM.slice (Rect.unit (s := S8x256x2048) off size inb) (fun _ => rfl)).squeeze s hq

/-- The elements a piece names. -/
theorem piece_set {off size : Fin 3 → ℕ} {inb : ∀ a, off a + size a ≤ S8x256x2048.size a} {s : Shape}
    {hq : (Rect.unit (s := S8x256x2048) off size inb).shape.Squeezes s} {d : Dev nD} {lo hi : ℕ}
    (ho : off = ![d.val, lo, 0]) (hs : size = ![1, hi - lo, 2048]) (h : lo ≤ hi) :
    (piece off size inb s hq).view.set = rows d lo hi := by
  exact (View.set_reshape _ _).trans ((View.set_slice_whole cc0_scratch0 _).trans (rect_rows ho hs h))

theorem rows_le (j : Fin 9) : rowLo j ≤ rowHi j := by revert j; decide

/-- Reading slot `s` of the complete array gives device `s`'s block. -/
theorem read_slot {off : Fin 3 → ℕ} {inb : ∀ a, off a + S1x256x2048.size a ≤ S8x256x2048.size a} {s : Dev nD} (ho : off = ![s.val, 0, 0]) :
    (gM.view.readAt (Elt F) (Rect.unit (s := S8x256x2048) off S1x256x2048.size inb).toLoadRect (gath m) : Vec F S1x256x2048 .bf16) = gblk m s := by
  subst ho
  funext x
  have h0 : (x 0).val = 0 := Nat.lt_one_iff.mp (x 0).isLt
  refine Eq.trans (b := gblk m ⟨s.val + 1 * (x 0).val, by rw [h0]; exact s.isLt⟩ x) ?_ ?_
  · refine congrArg (gblk m _) (funext fun a => ?_)
    fin_cases a
    · exact Fin.ext h0.symm
    · exact Fin.ext (by show 0 + 1 * (x 1).val = (x 1).val; omega)
    · exact Fin.ext (by show 0 + 1 * (x 2).val = (x 2).val; omega)
  · exact congrArg (fun d => gblk m d x) (Fin.ext (by show s.val + 1 * (x 0).val = s.val; omega))

/-- Storing device `s`'s block into slot `s` makes the slot final. -/
theorem write_slot (f : (cc0_scratch0 : Ref sig .tc).ty.Contents (Elt F)) {off : Fin 3 → ℕ}
    {inb : ∀ a, off a + S1x256x2048.size a ≤ S8x256x2048.size a} {s : Dev nD} (ho : off = ![s.val, 0, 0])
    (i : S8x256x2048.Idx) (hi : i ∈ slot s) :
    (gM.access (Rect.unit (s := S8x256x2048) off S1x256x2048.size inb) : View sig .tc _ _ _).write (Elt F) f (gblk m s) Finset.univ i = gath m i := by
  have hs : (gM.access (Rect.unit (s := S8x256x2048) off S1x256x2048.size inb)).set = slot s :=
    (View.set_slice_whole _ _).trans (rect_rows ho rfl (by decide))
  rw [← hs] at hi
  obtain ⟨x, -, rfl⟩ := Finset.mem_map.mp hi
  exact (View.write_emb_of_mem _ _ (Finset.mem_univ x)).trans (congrFun (read_slot (inb := inb) m ho) x).symm

/-! ## What a device holds -/

/-- Every cell's invariant, at the names `K`, and that its round 0 is reached. -/
def recs (K : Dev nD × Cix → ℕ) : sProp 𝕄 :=
  bigSep Finset.univ fun ck : Dev nD × Cix => iprop(cellInv EG (gRd m) (K ck) (kcell ck) ∗ reached EG (kcell ck) 0)
instance recs_persistent (K : Dev nD × Cix → ℕ) : BI.Persistent (recs m K) := by unfold recs; infer_instance
theorem rec_at (K : Dev nD × Cix → ℕ) (ck : Dev nD × Cix) :
    recs m K ⊢ iprop(cellInv EG (gRd m) (K ck) (kcell ck) ∗ reached EG (kcell ck) 0) := bigSep_elim (Finset.mem_univ ck)

/-- The payments `l` still to make, whatever was waited on. -/
def owing (c : Dev nD) (l : List Pay) : sProp 𝕄 := iprop(∃ W, owes (c : Thread nD τ) (due c l) W)
/-- What signalling direction `d` takes. -/
def toCall (c : Dev nD) (d : Fin 3) : sProp 𝕄 := dutyTok EG (barCell (flip c (dirMask d))) 0 d
/-- What hearing the three neighbours takes. -/
def toHear (c : Dev nD) : sProp 𝕄 := iprop(atPos EG (barCell c) 0 ∅ 0 ∗ cred (tallyAt (barCell c) () 3))
/-- What starting copy `j` takes, -/
def toSend (c : Dev nD) (j : Fin 9) : sProp 𝕄 :=
  iprop(dutyTok EG (sndCell c j) 0 0 ∗ dutyTok EG (rcvCell (flip c (hop j)) j) 0 0 ∗ atPos EG (sndCell c j) 0 ∅ 0)
/-- what it leaves to await its source by, -/
def sending (c : Dev nD) (j : Fin 9) : sProp 𝕄 := iprop(atPos EG (sndCell c j) 0 ∅ 0 ∗ cred (tallyAt (sndCell c j) () (crd j)))
/-- and what awaiting a landing takes. -/
def toRecv (c : Dev nD) (j : Fin 9) : sProp 𝕄 := iprop(atPos EG (rcvCell c j) 0 ∅ 0 ∗ cred (tallyAt (rcvCell c j) () (crd j)))
/-- Semaphore `k` of device `c` at rest. -/
def idle (c : Dev nD) (k : Cix) : sProp 𝕄 := semVal (kcell (c, k)) 0

/-! ## The steps -/

section
variable (K : Dev nD × Cix → ℕ)

/-- A program run on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A place a device hands over is where its neighbour's copy lands. -/
theorem land_flip (c : Dev nD) (j : Fin 9) :
    (free c (part (flip c (hop j)) j) : sProp 𝕄) = land (flip c (hop j)) j := by
  unfold land; rw [flip_flip]

theorem dir_hop (r d : Fin 3) : hop (cp r d) = dirMask d := by revert r d; decide

/-- The signal in direction `d`: the places of the three copies that come from there are handed over. -/
theorem call_step {α : Type} {Q : α → sProp 𝕄} (c : Dev nD) (d : Fin 3) (l : List Pay) {n : Dev nD} (hn : n = flip c (dirMask d)) {amt : ℕ} (hamt : amt = 1)
    {k : PUnit → Prog (TpuEff nD τ sig (Elt F) Λ₀ .tc) α} :
    iprop(recs m K ∗ owing c (.inl d :: l) ∗ toCall c d
        ∗ free c (part (flip c (dirMask d)) (cp 0 d)) ∗ free c (part (flip c (dirMask d)) (cp 1 d)) ∗ free c (part (flip c (dirMask d)) (cp 2 d)))
      ⊢ iprop((owing c l -∗ run c (k ⟨⟩) Q)
          -∗ run c (.op (.semSignal (Dev.tc n : Thread nD τ) barS amt) k) Q) := by
  subst hn; subst hamt
  unfold owing toCall
  iintro ⟨#Hr, ⟨%W, HO⟩, Ht, H0, H1, H2⟩ Hk
  ihave HR := (rec_at m K (flip c (dirMask d), .inl ())) $$ Hr
  icases HR with ⟨#HI, #Hz⟩
  iapply (Rounds.wp_signal 𝒱₀ EG (gRd m) (c : Thread nD τ) none (dst := (flip c (dirMask d) : Thread nD τ)) (κ := K (flip c (dirMask d), .inl ()))
      (d := d) (by rw [show (gRd m).duties (barCell (flip c (dirMask d))) 0 = Finset.univ from duties_at m _ (.inl ())]; exact Finset.mem_univ _)
      (amount_at m (flip c (dirMask d)) (.inl ()) d) () (due c l) rfl) $$ [HO Ht H0 H1 H2]
  · isplitr; · iexact HI
    isplitl [HO]; · iexact HO
    isplitl [Ht]; · iexact Ht
    isplitl [H0 H1 H2]; swap; · iexact Hz
    rw [show (gRd m).payload (barCell (flip c (dirMask d))) 0 d = barPay (flip c (dirMask d)) d from payload_at m _ (.inl ()) d]
    unfold barPay
    rw [← dir_hop 0 d, ← land_flip, dir_hop 0 d, ← dir_hop 1 d, ← land_flip, dir_hop 1 d, ← dir_hop 2 d, ← land_flip, dir_hop 2 d]
    isplitl [H0]; · iexact H0
    isplitl [H1]; · iexact H1
    iexact H2
  iintro HO
  iapply Hk
  iexists W; iexact HO

/-- The wait for the three neighbours' signals: the places of this device's nine copies, one direction after the other. -/
theorem hear_step {α : Type} {Q : α → sProp 𝕄} (c : Dev nD) (l : List Pay) (hl : ∀ p ∈ l, 1 < payLv p) {amt : ℕ} (hamt : amt = 3)
    {k : PUnit → Prog (TpuEff nD τ sig (Elt F) Λ₀ .tc) α} :
    iprop(recs m K ∗ levAts L lv ∗ owing c l ∗ toHear c)
      ⊢ iprop(((owing c l ∗ idle c (.inl ()) ∗ barPay c 0 ∗ barPay c 1 ∗ barPay c 2) -∗ run c (k ⟨⟩) Q)
          -∗ run c (.op (.semWait barS amt) k) Q) := by
  subst hamt
  unfold owing toHear idle
  iintro ⟨#Hr, #Hlev, ⟨%W, HO⟩, Hat, Hc⟩ Hk
  ihave HR := (rec_at m K (c, .inl ())) $$ Hr
  icases HR with ⟨#HI, #Hz⟩
  iapply (Rounds.wp_wait_rest_token 𝒱₀ EG (gRd m) (c : Thread nD τ) none (κ := K (c, .inl ()))
      (wpE_semWait_eq 𝒱₀ (c : Thread nD τ) none Set.univ) (Set.mem_univ _) () (O := due c l) (W := W) (R := 0) (m := 0) (T := ∅)
      (by rw [expect_bar])) $$ [HO Hat Hc]
  · isplitr; · iexact HI
    isplitl [Hc]; · iexact Hc
    isplitl [HO]; · iexact HO
    isplitr; · iapply (mayWait_due c (.reg barS) l 1 (le_refl _) hl); iexact Hlev
    iexact Hat
  iintro ⟨HO, Hat, -, Hpay⟩
  ihave Hp := (Entails.of_eq (rest_bar m c)) $$ Hpay
  imod (Rounds.cell_close EG (gRd m) (Set.mem_univ (K (c, .inl ()))) (fun h => h) (R := 0 + 1) (duties_later m (barCell c))) $$ [Hat] with Hv
  · isplitr; · iexact HI
    iexact Hat
  iapply Hk
  isplitl [HO]; · iexists _; iexact HO
  isplitl [Hv]; · iexact Hv
  iexact Hp

/-- Copy `j` started: its source rows and its landing place go with it. -/
theorem send_step {α : Type} {Q : α → sProp 𝕄} (c : Dev nD) (j : Fin 9) (l : List Pay) {n : Dev nD} (hn : n = flip c (hop j))
    {off size : Fin 3 → ℕ} {inb : ∀ a, off a + size a ≤ S8x256x2048.size a} {s : Shape}
    {hq : (Rect.unit (s := S8x256x2048) off size inb).shape.Squeezes s}
    (ho : off = src c j) (hs : size = ![1, rowHi j - rowLo j, 2048]) (hsh : s = shp j)
    {ss rs : DmaSem sig} (hss : ss = sndS j) (hrs : rs = rcvS j)
    {hsc : (piece off size inb s hq : Memref sig (Dev.tc n : Thread nD τ).2.kind .vmem s .bf16).view.ref.isScScratch = false}
    {hsrc : (piece off size inb s hq).view.WordExact} {hdst : (piece off size inb s hq).view.WordExact}
    {hsem : DmaTarget.Typed .vmem (.dma rs) (.remote (Dev.tc n : Thread nD τ) (piece off size inb s hq) (.dma ss) hsc)}
    {k : PUnit → Prog (TpuEff nD τ sig (Elt F) Λ₀ .tc) α} :
    iprop(recs m K ∗ owing c (.inr j :: l) ∗ toSend c j ∗ land c j ∗ sndPay m c j)
      ⊢ iprop(((owing c l ∗ sending c j) -∗ run c (k ⟨⟩) Q)
          -∗ run c (.op (.enqueueDma (piece off size inb s hq) (.remote (Dev.tc n : Thread nD τ) (piece off size inb s hq) (.dma ss) hsc) (.dma rs) hsrc hdst hsem) k) Q) := by
  subst hn; subst hss; subst hrs; subst hsh
  have hset : (piece off size inb (shp j) hq).view.set = part c j := piece_set ho hs (rows_le j)
  unfold owing toSend sending land sndPay free held
  iintro ⟨#Hr, ⟨%W, HO⟩, ⟨Ht, Ht', Hat⟩, ⟨%fd, Hd⟩, Hs⟩ Hk
  ihave HR := (rec_at m K (c, .inr (.inl j))) $$ Hr
  icases HR with ⟨#HI, #Hz⟩
  ihave HR' := (rec_at m K (flip c (hop j), .inr (.inr j))) $$ Hr
  icases HR' with ⟨#HI', #Hz'⟩
  iapply (Rounds.wp_send_pointsTo 𝒱₀ EG (gRd m) (c : Thread nD τ) none (κ₁ := K (c, .inr (.inl j))) (κ₂ := K (flip c (hop j), .inr (.inr j)))
    (r₁ := 0) (r₂ := 0) (d₁ := 0) (d₂ := 0) (q := shr j) (fs := gath m) (fd := fd)
    ((duties_at m c (.inr (.inl j))).superset (Finset.mem_singleton_self _))
    ((duties_at m (flip c (hop j)) (.inr (.inr j))).superset (Finset.mem_singleton_self _))
    () () (crd j) rfl (amount_at m c (.inr (.inl j)) 0) (amount_at m (flip c (hop j)) (.inr (.inr j)) 0) (due c l) rfl (W := W)
    (by
      refine BIBase.Entails.trans ?_ (Entails.of_eq (payload_at m c (.inr (.inl j)) 0).symm)
      rw [hset]; exact BI.Entails.refl _)
    (by
      refine BIBase.Entails.trans ?_ (Entails.of_eq (payload_at m (flip c (hop j)) (.inr (.inr j)) 0).symm)
      rw [hset]
      show _ ⊢ rcvPay m (flip c (hop j)) j
      unfold rcvPay held; rw [flip_flip]
      refine Entails.of_eq (pointsTo_congr fun i hi => ?_)
      refine (congrFun (View.write_read_eq_piecewise (v := (piece off size inb (shp j) hq).view) fd (gath m) Finset.univ) i).trans
        (Finset.piecewise_eq_of_mem _ _ _ ?_)
      rw [View.setOn_univ, hset]; exact hi)) $$ [HO Ht Ht' Hd Hs]
  · isplitr; · iexact HI
    isplitr; · iexact HI'
    rw [hset]
    isplitl [Hs]; · iexact Hs
    isplitl [Hd]; · iexact Hd
    isplitl [HO]; · iexact HO
    isplitl [Ht]; · iexact Ht
    isplitr; · iexact Hz
    isplitl [Ht']; · iexact Ht'
    iexact Hz'
  iintro ⟨Hc, HO⟩
  iapply Hk
  isplitl [HO]; · iexists W; iexact HO
  isplitl [Hat]; · iexact Hat
  iexact Hc

/-- A wait on one of a device's own copy semaphores, whichever: what it hands over, and the semaphore at rest. -/
theorem xfer_step {α : Type} {Q : α → sProp 𝕄} (c : Dev nD) (x : Fin 9 ⊕ Fin 9) (l : List Pay) (v : ℕ) (hv : lv (kcell (c, .inr x)) () ≤ v) (hl : ∀ p ∈ l, v < payLv p)
    {q : DmaSem sig} (hx : csem (.inr x) = .dma q) {s s' : Shape} {M : Memref sig .tc .vmem s .bf16} {M' : Memref sig .tc .vmem s' .bf16}
    {h₁ : M'.view.WordExact} {h₂ : M.view.WordExact} (hM : M.view.dmaCredit = amountOf (some (.inr x)))
    {k : PUnit → Prog (TpuEff nD τ sig (Elt F) Λ₀ .tc) α} :
    iprop(recs m K ∗ levAts L lv ∗ owing c l ∗ atPos EG (kcell (c, .inr x)) 0 ∅ 0 ∗ cred (tallyAt (kcell (c, .inr x)) () (amountOf (some (.inr x)))))
      ⊢ iprop(((owing c l ∗ idle c (.inr x) ∗ payOf m c 0 (some (.inr x))) -∗ run c (k ⟨⟩) Q)
          -∗ run c (.op (.waitDma2 q M' M h₁ h₂) k) Q) := by
  have hcell : kcell (c, .inr x) = ((c : Thread nD τ), SemLoc.dma q) := by rw [← hx]
  unfold owing idle
  iintro ⟨#Hr, #Hlev, ⟨%W, HO⟩, Hat, Hc⟩ Hk
  ihave HR := (rec_at m K (c, .inr x)) $$ Hr
  icases HR with ⟨#HI, #Hz⟩
  iapply (Rounds.wp_wait_rest_token 𝒱₀ EG (gRd m) (c : Thread nD τ) none (κ := K (c, .inr x))
      (wpE_waitDma2_eq 𝒱₀ (c : Thread nD τ) none Set.univ) (Set.mem_univ _) () (O := due c l) (W := W) (R := 0) (m := 0) (T := ∅)
      (by rw [← hcell, Nat.zero_add, expect_xfer, hM])) $$ [HO Hat Hc]
  · rw [← hcell, hM]
    isplitr; · iexact HI
    isplitl [Hc]; · iexact Hc
    isplitl [HO]; · iexact HO
    isplitr; · iapply (mayWait_due c (.dma q) l v (by rw [← hcell]; exact hv) hl); iexact Hlev
    iexact Hat
  iintro ⟨HO, Hat, -, Hpay⟩
  rw [← hcell]
  ihave Hp := (Entails.of_eq (rest_xfer m c x)) $$ Hpay
  imod (Rounds.cell_close EG (gRd m) (Set.mem_univ (K (c, .inr x))) (fun h => h) (R := 0 + 1) (duties_later m (kcell (c, .inr x)))) $$ [Hat] with Hv
  · isplitr; · iexact HI
    iexact Hat
  iapply Hk
  isplitl [HO]; · iexists _; iexact HO
  isplitl [Hv]; · iexact Hv
  iexact Hp

/-- The wait for the landing of the copy `j` that comes in. -/
theorem recv_step {α : Type} {Q : α → sProp 𝕄} (c : Dev nD) (j : Fin 9) (l : List Pay) (hl : ∀ p ∈ l, 2 + j.val / 3 < payLv p)
    {q : DmaSem sig} (hx : q = rcvS j) {s s' : Shape} (hs : s = shp j) {off size inb hq} {M' : Memref sig .tc .vmem s' .bf16}
    {h₁ : M'.view.WordExact} {h₂ : (piece off size inb s hq).view.WordExact}
    {k : PUnit → Prog (TpuEff nD τ sig (Elt F) Λ₀ .tc) α} :
    iprop(recs m K ∗ levAts L lv ∗ owing c l ∗ toRecv c j)
      ⊢ iprop(((owing c l ∗ idle c (.inr (.inr j)) ∗ rcvPay m c j) -∗ run c (k ⟨⟩) Q)
          -∗ run c (.op (.waitDma2 q M' (piece off size inb s hq) h₁ h₂) k) Q) := by
  subst hx; subst hs
  unfold toRecv
  refine xfer_step m K c (.inr j) l (2 + j.val / 3) ?_ hl rfl rfl
  dsimp only [lv, kcell]
  rw [cix_csem]

/-- The wait for the source of copy `j`: its rows come back. -/
theorem sent_step {α : Type} {Q : α → sProp 𝕄} (c : Dev nD) (j : Fin 9) {q : DmaSem sig} (hx : q = sndS j) {s s' : Shape} (hs : s = shp j) {off size inb hq}
    {M' : Memref sig .tc .vmem s' .bf16} {h₁ : M'.view.WordExact} {h₂ : (piece off size inb s hq).view.WordExact}
    {k : PUnit → Prog (TpuEff nD τ sig (Elt F) Λ₀ .tc) α} :
    iprop(recs m K ∗ levAts L lv ∗ owing c [] ∗ sending c j)
      ⊢ iprop(((owing c [] ∗ idle c (.inr (.inl j)) ∗ sndPay m c j) -∗ run c (k ⟨⟩) Q)
          -∗ run c (.op (.waitDma2 q M' (piece off size inb s hq) h₁ h₂) k) Q) := by
  subst hx; subst hs
  unfold sending
  refine xfer_step m K c (.inl j) [] 0 ?_ (fun p hp => absurd hp List.not_mem_nil) rfl rfl
  dsimp only [lv, kcell]
  rw [cix_csem]

end

/-! ## The slots read and the result written -/

/-- The elements a slot's read touches. -/
theorem slot_touched {off : Fin 3 → ℕ} {inb : ∀ a, off a + S1x256x2048.size a ≤ S8x256x2048.size a} {s : Dev nD} (ho : off = ![s.val, 0, 0]) :
    gM.view.setOn (Rect.unit (s := S8x256x2048) off S1x256x2048.size inb).set ⊆ slot s := by
  have h₁ := View.set_slice (View.whole cc0_scratch0) (Rect.unit (s := S8x256x2048) off S1x256x2048.size inb)
  have h₂ := View.set_slice_whole cc0_scratch0 (Rect.unit (s := S8x256x2048) off S1x256x2048.size inb)
  have h₃ : (Rect.unit (s := S8x256x2048) off S1x256x2048.size inb).set = slot s := rect_rows ho rfl (by decide)
  exact (h₁.symm.trans (h₂.trans h₃)).subset

/-- A final slot, held at any share, is read whole. -/
theorem read_step {α : Type} {Q : α → sProp 𝕄} (c s : Dev nD) (q : PosShare TreeShare) {off : Fin 3 → ℕ} {inb : ∀ a, off a + S1x256x2048.size a ≤ S8x256x2048.size a}
    (ho : off = ![s.val, 0, 0]) {hl : gM.view.LoadsAt (Rect.unit (s := S8x256x2048) off S1x256x2048.size inb).toLoadRect}
    {k : Vec F S1x256x2048 .bf16 → Prog (TpuEff nD τ sig (Elt F) Λ₀ .tc) α} :
    held m c (slot s) q ⊢ iprop((held m c (slot s) q -∗ run c (k (gblk m s)) Q)
      -∗ run c (.op (.load gM (Rect.unit (s := S8x256x2048) off S1x256x2048.size inb).toLoadRect hl) k) Q) := by
  unfold held
  rw [← read_slot m (inb := inb) ho]
  exact wp_load (defs := defs₀ (F := F)) 𝒱₀ (c : Thread nD τ) none Set.univ (m := gM) (hl := hl) (k := k) (q := q) (f := gath m) (slot_touched (inb := inb) ho)

/-- A block of the result: the payload of one slot against the device's `w`. -/
def oblk (c s : Dev nD) : FVec F S256x256 .f32 := k0_pay7 (k0_pay1 (wstg m c)) (gblk m s)

/-- The block of a result row, and the place within the block. -/
def rowDev (i : S2048x256.Idx) : Dev nD := ⟨(i 0).val / 256, by have : (i 0).val < 2048 := (i 0).isLt; show _ < 8; omega⟩
def inBlk (i : S2048x256.Idx) : S256x256.Idx := fun a =>
  match a with
  | 0 => ⟨(i 0).val % 256, Nat.mod_lt _ (by decide)⟩
  | 1 => ⟨(i 1).val, (i 1).isLt⟩

/-- The result on device `c`. -/
def outAt (c : Dev nD) : (cc0_stg2_0 : Ref sig .tc).ty.Contents (Elt F) := fun i => oblk m c (rowDev i) (inBlk i)

/-- The result array with the blocks `done` final. -/
def outs (c : Dev nD) (done : List (Dev nD)) : sProp 𝕄 :=
  iprop(∃ f : (cc0_stg2_0 : Ref sig .tc).ty.Contents (Elt F), ⌜∀ i, rowDev i ∈ done → f i = outAt m c i⌝ ∗ ((c : Thread nD τ).loc cc0_stg2_0) ↦{fullShare} f)

/-- Writing block `s` into the result writes its rows final and leaves the others. -/
theorem write_blk (c s : Dev nD) (f : (cc0_stg2_0 : Ref sig .tc).ty.Contents (Elt F)) {off : Fin 2 → ℕ}
    {inb : ∀ a, off a + S256x256.size a ≤ S2048x256.size a} (ho : off = ![256 * s.val, 0]) (i : S2048x256.Idx) :
    (oM.access (Rect.unit (s := S2048x256) off S256x256.size inb) : View sig .tc _ _ _).write (Elt F) f (oblk m c s) Finset.univ i
      = if rowDev i = s then outAt m c i else f i := by
  subst ho
  have hset : ∀ i : S2048x256.Idx, i ∈ (Rect.unit (s := S2048x256) ![256 * s.val, 0] S256x256.size inb).set ↔ rowDev i = s := by
    intro i
    rw [Rect.mem_set_unit, Fin.ext_iff]
    have h1 : (i 1).val < 256 := (i 1).isLt
    show _ ↔ (i 0).val / 256 = s.val
    constructor
    · intro H
      have H0 : 256 * s.val ≤ (i 0).val ∧ (i 0).val < 256 * s.val + 256 := H 0
      omega
    · intro H a
      fin_cases a
      · show 256 * s.val ≤ (i 0).val ∧ (i 0).val < 256 * s.val + 256; omega
      · show 0 ≤ (i 1).val ∧ (i 1).val < 0 + 256; omega
  by_cases h : rowDev i = s
  · rw [if_pos h]
    have hi := (hset i).mpr h
    rw [← View.set_slice_whole cc0_stg2_0] at hi
    obtain ⟨x, -, rfl⟩ := Finset.mem_map.mp hi
    refine (View.write_emb_of_mem _ _ (Finset.mem_univ x)).trans ?_
    unfold outAt
    rw [h]
    refine congrArg (oblk m c s) (funext fun a => ?_)
    have h0 : (x 0).val < 256 := (x 0).isLt
    fin_cases a
    · exact Fin.ext (by show (x 0).val = (256 * s.val + 1 * (x 0).val) % 256; omega)
    · exact Fin.ext (by show (x 1).val = 0 + 1 * (x 1).val; omega)
  · rw [if_neg h]
    refine View.write_of_not_mem _ _ _ (fun hm => h ((hset i).mp ?_))
    rw [View.setOn_univ] at hm
    have hs := View.set_slice_whole cc0_stg2_0 (Rect.unit (s := S2048x256) ![256 * s.val, 0] S256x256.size inb)
    exact hs ▸ hm

/-- A block of the result written, after a read whose value is not used. -/
theorem put_step {α : Type} {Q : α → sProp 𝕄} (c s : Dev nD) (done : List (Dev nD)) {off : Fin 2 → ℕ} {inb : ∀ a, off a + S256x256.size a ≤ S2048x256.size a}
    (ho : off = ![256 * s.val, 0]) {v : FVec F S256x256 .f32} (hv : v = oblk m c s)
    {hl : oM.view.LoadsAt (Rect.unit (s := S2048x256) off S256x256.size inb).toLoadRect}
    {hx : (oM.access (Rect.unit (s := S2048x256) off S256x256.size inb)).Stores Finset.univ}
    {hm : (Finset.univ : Finset (Rect.unit (s := S2048x256) off S256x256.size inb).shape.Idx) = Finset.univ ∨ _}
    {k : PUnit → Prog (TpuEff nD τ sig (Elt F) Λ₀ .tc) α} :
    outs m c done ⊢ iprop((outs m c (s :: done) -∗ run c (k ⟨⟩) Q)
      -∗ run c (.op (.load oM (Rect.unit (s := S2048x256) off S256x256.size inb).toLoadRect hl)
          fun _ => .op (.store oM (Rect.unit (s := S2048x256) off S256x256.size inb) v Finset.univ hx hm) k) Q) := by
  subst hv
  unfold outs
  iintro ⟨%f, %hf, Ho⟩ Hk
  iapply (wp_load 𝒱₀ (c : Thread nD τ) none Set.univ (m := oM) (Finset.subset_univ _)) $$ Ho; iintro Ho
  iapply (wp_store 𝒱₀ (c : Thread nD τ) none Set.univ (m := oM) (r := Rect.unit (s := S2048x256) off S256x256.size inb) (Mk := Finset.univ) (Finset.subset_univ _)) $$ Ho; iintro Ho
  iapply Hk
  iexists _
  isplitr; swap; · iexact Ho
  ipureintro
  intro i hi
  refine (write_blk m c s f ho i).trans ?_
  by_cases h : rowDev i = s
  · rw [if_pos h]
  · rw [if_neg h]; exact hf i ((List.mem_cons.mp hi).resolve_left h)

end Cert.KernelIdeal.Gather

end
-- ==== Proof.KernelIdealHold.lean ====
/-
# The gathered array taken apart and put together

The eight slots, the three row ranges of the slot that comes in pieces, and the shares of a slot that is read while copies of it
are under way.
-/
module

public import proofs.«01_k».proof.Proof.KernelIdealSteps

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The rows copy `j` brings in: the part of the neighbour's copy, by the slot's direction from here. -/
def room (c : Dev nD) (j : Fin 9) : Finset S8x256x2048.Idx := rows (flip c (inMask j)) (rowLo j) (rowHi j)

theorem room_eq (c : Dev nD) (j : Fin 9) : part (flip c (hop j)) j = room c j := by
  unfold part room; rw [← slot_eq (flip c (hop j)) j, flip_flip]

/-- What has come in with copy `j`. -/
theorem rcvPay_eq (c : Dev nD) (j : Fin 9) : rcvPay m c j = held m c (room c j) fullShare := by unfold rcvPay; rw [room_eq]

/-! ## Shares -/

theorem held_halves (c : Dev nD) (R : Finset S8x256x2048.Idx) (q : PosShare TreeShare) :
    held m c R q ⊣⊢ iprop(held m c R q.left ∗ held m c R q.right) := by
  unfold held; exact pointsTo_share (PosShare.mem_left_op_right q)

/-- Part of what is held, and the rest. -/
theorem held_carve (c : Dev nD) {R R' : Finset S8x256x2048.Idx} (q : PosShare TreeShare) (h : R' ⊆ R) :
    held m c R q ⊣⊢ iprop(held m c R' q ∗ held m c (R \ R') q) := by
  unfold held; exact pointsTo_split_subset h

theorem held_rows (c s : Dev nD) (q : PosShare TreeShare) {lo mid hi : ℕ} (h : lo ≤ mid) (h' : mid ≤ hi) :
    held m c (rows s lo hi) q ⊣⊢ iprop(held m c (rows s lo mid) q ∗ held m c (rows s mid hi) q) := by
  unfold held; rw [← rows_union s h h']; exact pointsTo_union (rows_disjoint (.inr (le_refl _)))

omit [FloatOps F] in
theorem free_rows (c s : Dev nD) {lo mid hi : ℕ} (h : lo ≤ mid) (h' : mid ≤ hi) :
    (free c (rows s lo hi) : sProp 𝕄) ⊢ iprop(free c (rows s lo mid) ∗ free c (rows s mid hi)) := by
  unfold free; rw [← rows_union s h h']
  iintro ⟨%f, H⟩
  ihave H' := (pointsTo_union (rows_disjoint (.inr (le_refl _)))).1 $$ H
  icases H' with ⟨H1, H2⟩
  isplitl [H1]
  · iexists f; iexact H1
  · iexists f; iexact H2

/-- A whole slot in four shares: one for each copy of it, and one to read it by. -/
theorem held_quarters (c : Dev nD) (R : Finset S8x256x2048.Idx) :
    held m c R fullShare ⊣⊢ iprop((held m c R fullShare.left.left ∗ held m c R fullShare.left.right)
      ∗ held m c R fullShare.right.left ∗ held m c R fullShare.right.right) :=
  (held_halves m c R fullShare).trans (sep_congr (held_halves m c R _) (held_halves m c R _))

/-- The three row ranges of the slot that comes in pieces. -/
theorem held_pieces (c : Dev nD) (q : PosShare TreeShare) :
    held m c (slot (flip c 6)) q ⊣⊢ iprop(held m c (room c 6) q ∗ held m c (room c 7) q ∗ held m c (room c 8) q) :=
  (held_rows m c (flip c 6) q (by decide : 0 ≤ 96) (by decide : 96 ≤ 256)).trans
    (sep_congr .rfl (held_rows m c (flip c 6) q (by decide : 96 ≤ 192) (by decide : 192 ≤ 256)))

/-! ## The slots -/

theorem slots_cover (c : Dev nD) : (Finset.univ : Finset S8x256x2048.Idx) = (Finset.univ : Finset (Fin 8)).biUnion fun k => slot (flip c k) := by
  refine (Finset.eq_univ_of_forall fun i => ?_).symm
  obtain ⟨k, hk⟩ := exists_flip c ⟨(i 0).val, (i 0).isLt⟩
  refine Finset.mem_biUnion.mpr ⟨k, Finset.mem_univ k, ?_⟩
  rw [← hk]
  exact mem_rows.mpr ⟨rfl, Nat.zero_le _, (i 1).isLt⟩

theorem slots_apart (c : Dev nD) (k k' : Fin 8) (h : k ≠ k') : Disjoint (slot (flip c k)) (slot (flip c k')) :=
  rows_disjoint (.inl fun e => h (flip_inj e))

omit [FloatOps F] in
theorem free_of (c : Dev nD) (R : Finset S8x256x2048.Idx) (f : (cc0_scratch0 : Ref sig .tc).ty.Contents (Elt F)) :
    (((c : Thread nD τ).loc cc0_scratch0) ↦[R]{fullShare} f : sProp 𝕄) ⊢ iprop(∃ f, ((c : Thread nD τ).loc cc0_scratch0) ↦[R]{fullShare} f) := by
  iintro H; iexists f; iexact H

omit [FloatOps F] in
/-- One thing for each mask, written out. -/
theorem each_mask (P : Fin 8 → sProp 𝕄) :
    bigSep Finset.univ P = iprop(P 0 ∗ P 1 ∗ P 2 ∗ P 3 ∗ P 4 ∗ P 5 ∗ P 6 ∗ P 7) := by
  rw [bigSep_univ_eq_bigSepL [0, 1, 2, 3, 4, 5, 6, 7] (by decide) (by decide)]; rfl

omit [FloatOps F] in
/-- The whole array at any contents is the device's own slot and the rooms of the nine copies that come in. -/
theorem split_all (c : Dev nD) :
    (free c Finset.univ : sProp 𝕄) ⊢ iprop(free c (slot (flip c 0)) ∗ free c (room c 0) ∗ free c (room c 1) ∗ free c (room c 2)
      ∗ free c (room c 3) ∗ free c (room c 4) ∗ free c (room c 5) ∗ free c (room c 6) ∗ free c (room c 7) ∗ free c (room c 8)) := by
  have h : (free c Finset.univ : sProp 𝕄) ⊢ bigSep Finset.univ fun k : Fin 8 => free c (slot (flip c k)) := by
    unfold free
    refine exists_elim fun f => ?_
    rw [slots_cover c, pointsTo_biUnion Finset.univ _ fun k _ k' _ => slots_apart c k k']
    exact bigSep_mono fun k _ => free_of c _ f
  refine BIBase.Entails.trans h ?_
  rw [each_mask]
  iintro ⟨H0, H1, H2, H3, H4, H5, H6, H7⟩
  ihave H6' := (free_rows c (flip c 6) (by decide : 0 ≤ 96) (by decide : 96 ≤ 256)) $$ H6
  icases H6' with ⟨H6, H6'⟩
  ihave H6'' := (free_rows c (flip c 6) (by decide : 96 ≤ 192) (by decide : 192 ≤ 256)) $$ H6'
  icases H6'' with ⟨H6', H6''⟩
  isplitl [H0]; · iexact H0
  isplitl [H1]; · iexact H1
  isplitl [H3]; · iexact H3
  isplitl [H4]; · iexact H4
  isplitl [H2]; · iexact H2
  isplitl [H7]; · iexact H7
  isplitl [H5]; · iexact H5
  isplitl [H6]; · iexact H6
  isplitl [H6']; · iexact H6'
  iexact H6''

/-- The eight slots, final, are the whole array. -/
theorem join_all (c : Dev nD) :
    iprop(held m c (slot (flip c 0)) fullShare ∗ held m c (slot (flip c 1)) fullShare ∗ held m c (slot (flip c 2)) fullShare
      ∗ held m c (slot (flip c 3)) fullShare ∗ held m c (slot (flip c 4)) fullShare ∗ held m c (slot (flip c 5)) fullShare
      ∗ held m c (slot (flip c 6)) fullShare ∗ held m c (slot (flip c 7)) fullShare) ⊢ free c Finset.univ := by
  have h : (bigSep Finset.univ fun k : Fin 8 => held m c (slot (flip c k)) fullShare) ⊢ free c Finset.univ := by
    unfold free held
    rw [← pointsTo_biUnion Finset.univ _ fun k _ k' _ => slots_apart c k k', ← slots_cover c]
    exact exists_intro (gath m)
  refine BIBase.Entails.trans ?_ h
  rw [each_mask]

/-! ## Slots passed on -/

/-- Which incoming copy fills the slot that copy `j` of rounds two and three is taken from. -/
def fed : Fin 9 → Fin 9 := ![0, 0, 0, 1, 2, 0, 4, 5, 3]

/-- What stays on the device of the slot copy `j` is taken from, while the copy is under way. -/
def spare (c : Dev nD) (j : Fin 9) : sProp 𝕄 :=
  iprop(held m c (slot (flip c (outMask j)) \ part c j) fullShare.left ∗ held m c (slot (flip c (outMask j))) fullShare.right)

theorem slot_parted (c : Dev nD) (j : Fin 9) (hj : shr j = fullShare.left) :
    held m c (slot (flip c (outMask j))) fullShare ⊣⊢ iprop(sndPay m c j ∗ spare m c j) := by
  unfold sndPay spare
  rw [hj]
  exact (held_halves m c _ _).trans ((sep_congr (held_carve m c _ (rows_subset_slot _ (by revert j; decide))) .rfl).trans sep_assoc)

/-- A slot that came in whole, taken apart for the copy that passes it on. -/
theorem relay (c : Dev nD) (j : Fin 9) (hj : 3 ≤ j.val) : rcvPay m c (fed j) ⊢ iprop(sndPay m c j ∗ spare m c j) := by
  have h₁ : inMask (fed j) = outMask j := by revert hj; revert j; decide
  have h₂ : rowLo (fed j) = 0 := by revert hj; revert j; decide
  have h₃ : rowHi (fed j) = 256 := by revert hj; revert j; decide
  have h₄ : shr j = fullShare.left := by
    obtain ⟨n, hn⟩ := j
    match n, hn, hj with
    | 3, _, _ => rfl | 4, _, _ => rfl | 5, _, _ => rfl | 6, _, _ => rfl | 7, _, _ => rfl | 8, _, _ => rfl
  rw [rcvPay_eq]
  unfold room
  rw [h₁, h₂, h₃]
  exact (slot_parted m c j h₄).1

/-- The slot together again once the copy is done with it. -/
theorem unrelay (c : Dev nD) (j : Fin 9) (hj : shr j = fullShare.left) :
    iprop(sndPay m c j ∗ spare m c j) ⊢ held m c (slot (flip c (outMask j))) fullShare := (slot_parted m c j hj).2

/-- The slot is read by what stayed. -/
theorem spare_read {α : Type} {Q : α → sProp 𝕄} (c s : Dev nD) (j : Fin 9) (hj : s = flip c (outMask j)) {off : Fin 3 → ℕ} {inb : ∀ a, off a + S1x256x2048.size a ≤ S8x256x2048.size a}
    (ho : off = ![s.val, 0, 0]) {hl : gM.view.LoadsAt (Rect.unit (s := S8x256x2048) off S1x256x2048.size inb).toLoadRect}
    {k : Vec F S1x256x2048 .bf16 → Prog (TpuEff nD τ sig (Elt F) Λ₀ .tc) α} :
    spare m c j ⊢ iprop((spare m c j -∗ run c (k (gblk m s)) Q)
      -∗ run c (.op (.load gM (Rect.unit (s := S8x256x2048) off S1x256x2048.size inb).toLoadRect hl) k) Q) := by
  subst hj
  unfold spare
  iintro ⟨H, H'⟩ Hk
  iapply (read_step m c (flip c (outMask j)) fullShare.right ho) $$ [H']
  · iexact H'
  iintro H'
  iapply Hk
  isplitl [H]; · iexact H
  iexact H'

/-- The device's own slot in the shares of its three copies, and one to read it by. -/
theorem own_parted (c : Dev nD) : held m c (slot (flip c 0)) fullShare
    ⊣⊢ iprop((sndPay m c 0 ∗ sndPay m c 1) ∗ sndPay m c 2 ∗ held m c (slot (flip c 0)) fullShare.right.right) :=
  held_quarters m c (slot (flip c 0))

/-- The slot that comes in pieces, complete. -/
theorem pieces_in (c : Dev nD) : iprop(rcvPay m c 6 ∗ rcvPay m c 7 ∗ rcvPay m c 8) ⊢ held m c (slot (flip c 6)) fullShare := by
  rw [rcvPay_eq, rcvPay_eq, rcvPay_eq]; exact (held_pieces m c fullShare).2

end Cert.KernelIdeal.Gather

end
-- ==== Proof.KernelIdealBody.lean ====
/-
# One device's run of the gather

The body's windows in program order, each from what it takes to what it leaves, and the whole body from them.
-/
module

public import proofs.«01_k».proof.Proof.KernelIdealHold

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The payments left after the first `n`. -/
abbrev dues (n : ℕ) : List Pay := pays.drop n

/-- The device's block of `x` and of `w`, staged. -/
def xPts (c : Dev nD) : sProp 𝕄 := ((c : Thread nD τ).loc cc0_stg0_0) ↦{fullShare} xstg m c
def wPts (c : Dev nD) : sProp 𝕄 := ((c : Thread nD τ).loc cc0_stg1_0) ↦{fullShare} wstg m c

/-- What a slot holds once its block is written. -/
theorem stored (c s : Dev nD) (f : (cc0_scratch0 : Ref sig .tc).ty.Contents (Elt F)) {off : Fin 3 → ℕ} {inb : ∀ a, off a + S1x256x2048.size a ≤ S8x256x2048.size a}
    (ho : off = ![s.val, 0, 0]) :
    ((((c : Thread nD τ).loc cc0_scratch0) ↦[slot s]{fullShare}
      (gM.access (Rect.unit (s := S8x256x2048) off S1x256x2048.size inb) : View sig .tc _ _ _).write (Elt F) f (gblk m s) Finset.univ) : sProp 𝕄)
      ⊢ held m c (slot s) fullShare := by
  unfold held
  exact Entails.of_eq (pointsTo_congr fun i hi => write_slot m f ho i hi)

/-- A device's block stored into its slot, after a read whose value is not used. -/
theorem store_step {α : Type} {Q : α → sProp 𝕄} (c s : Dev nD) {off : Fin 3 → ℕ} {inb : ∀ a, off a + S1x256x2048.size a ≤ S8x256x2048.size a}
    (ho : off = ![s.val, 0, 0]) {v : FVec F S1x256x2048 .bf16} (hv : v = gblk m s)
    {hl : gM.view.LoadsAt (Rect.unit (s := S8x256x2048) off S1x256x2048.size inb).toLoadRect}
    {hx : (gM.access (Rect.unit (s := S8x256x2048) off S1x256x2048.size inb)).Stores Finset.univ}
    {hm : (Finset.univ : Finset (Rect.unit (s := S8x256x2048) off S1x256x2048.size inb).shape.Idx) = Finset.univ ∨ _}
    {k : PUnit → Prog (TpuEff nD τ sig (Elt F) Λ₀ .tc) α} :
    free c (slot s) ⊢ iprop((held m c (slot s) fullShare -∗ run c (k ⟨⟩) Q)
      -∗ run c (.op (.load gM (Rect.unit (s := S8x256x2048) off S1x256x2048.size inb).toLoadRect hl)
          fun _ => .op (.store gM (Rect.unit (s := S8x256x2048) off S1x256x2048.size inb) v Finset.univ hx hm) k) Q) := by
  subst hv
  unfold free
  have hset : (gM.access (Rect.unit (s := S8x256x2048) off S1x256x2048.size inb)).setOn Finset.univ ⊆ slot s :=
    ((View.setOn_univ _).trans ((View.set_slice_whole cc0_scratch0 _).trans (rect_rows ho rfl (by decide)))).subset
  iintro ⟨%f, H⟩ Hk
  iapply (wp_load (defs := defs₀ (F := F)) 𝒱₀ (c : Thread nD τ) none Set.univ (m := gM) (hl := hl) (q := fullShare) (f := f) (slot_touched (inb := inb) ho)) $$ H; iintro H
  iapply (wp_store (defs := defs₀ (F := F)) 𝒱₀ (c : Thread nD τ) none Set.univ (m := gM) (r := Rect.unit (s := S8x256x2048) off S1x256x2048.size inb)
    (Mk := Finset.univ) (f := f) (S := slot s) hset) $$ H; iintro H
  iapply Hk
  iapply (stored m c s f (inb := inb) ho) $$ [H]
  iexact H

theorem hz : (![0, 0] : Fin 2 → ℕ) = fun _ => 0 := funext fun a => by fin_cases a <;> rfl
/-- The staged blocks are read whole. -/
theorem read_x (f : (cc0_stg0_0 : Ref sig .tc).ty.Contents (Elt F)) :
    xM.view.readAt (Elt F) (Rect.unit (s := S256x2048) ![0, 0] S256x2048.size inb_S256x2048_S256x2048_0_0).toLoadRect f = f :=
  Memref.readAt_unit_zero (Elt F) cc0_stg0_0 hz _ f
theorem read_w (f : (cc0_stg1_0 : Ref sig .tc).ty.Contents (Elt F)) :
    wM.view.readAt (Elt F) (Rect.unit (s := S2048x256) ![0, 0] S2048x256.size inb_S2048x256_S2048x256_0_0).toLoadRect f = f :=
  Memref.readAt_unit_zero (Elt F) cc0_stg1_0 hz _ f

section
variable (K : Dev nD × Cix → ℕ)

/-- The kernel's first window: the three signals, the wait for the three neighbours, and the device's own block put into its slot. -/
theorem part1_run {α : Type} {Q : α → sProp 𝕄} (c : Dev nD)
    {k : (Σ' (_ : Dev nD) (_ : BitVec 32) (_ : BitVec 32) (_ : BitVec 32) (_ : BitVec 32), FVec F S2048x256 .bf16) → Prog (TpuEff nD τ sig (Elt F) Λ₀ .tc) α} :
    iprop(recs m K ∗ levAts L lv ∗ owing c pays ∗ toCall c 0 ∗ toCall c 1 ∗ toCall c 2 ∗ toHear c ∗ free c Finset.univ ∗ xPts m c ∗ wPts m c)
      ⊢ iprop((∀ v2 v3 v4 v5, (owing c (dues 3) ∗ idle c (.inl ()) ∗ barPay c 0 ∗ barPay c 1 ∗ barPay c 2 ∗ held m c (slot (flip c 0)) fullShare ∗ xPts m c ∗ wPts m c)
            -∗ run c (k ⟨c, v2, v3, v4, v5, k0_pay1 (wstg m c)⟩) Q)
          -∗ run c (k0_part1 xM (Memref.isWhole_whole _) wM (Memref.isWhole_whole _) oM (Memref.isWhole_whole _) gM (Memref.isWhole_whole _) cc0_scratch1 cc0_scratch2 >>= k) Q) := by
  rw [k0_part1_eq_skeleton]; unfold k0_part1_skel
  simp only [semSignalWord, semWaitWord, Prog.lift, Prog.bind_op, Prog.bind_ret, Prog.pure_eq_ret, wp_deviceId]
  iintro ⟨#Hr, #Hlev, HO, Hc0, Hc1, Hc2, Hh, Hg, Hx, Hw⟩ Hk
  ihave Hs := (split_all c) $$ Hg
  icases Hs with ⟨Hs, H0, H1, H2, H3, H4, H5, H6, H7, H8⟩
  iapply (call_step m K c 0 (dues 1) (dev1_eq c) rfl) $$ [HO Hc0 H0 H3 H6]
  · rw [← dir_hop 0 0, room_eq, dir_hop 0 0, ← dir_hop 1 0, room_eq, dir_hop 1 0, ← dir_hop 2 0, room_eq]
    isplitr; · iexact Hr
    isplitl [HO]; · iexact HO
    isplitl [Hc0]; · iexact Hc0
    isplitl [H0]; · iexact H0
    isplitl [H3]; · iexact H3
    iexact H6
  iintro HO
  iapply (call_step m K c 1 (dues 2) (dev2_eq c) rfl) $$ [HO Hc1 H1 H4 H7]
  · rw [← dir_hop 0 1, room_eq, dir_hop 0 1, ← dir_hop 1 1, room_eq, dir_hop 1 1, ← dir_hop 2 1, room_eq]
    isplitr; · iexact Hr
    isplitl [HO]; · iexact HO
    isplitl [Hc1]; · iexact Hc1
    isplitl [H1]; · iexact H1
    isplitl [H4]; · iexact H4
    iexact H7
  iintro HO
  iapply (call_step m K c 2 (dues 3) (dev3_eq c) rfl) $$ [HO Hc2 H2 H5 H8]
  · rw [← dir_hop 0 2, room_eq, dir_hop 0 2, ← dir_hop 1 2, room_eq, dir_hop 1 2, ← dir_hop 2 2, room_eq]
    isplitr; · iexact Hr
    isplitl [HO]; · iexact HO
    isplitl [Hc2]; · iexact Hc2
    isplitl [H2]; · iexact H2
    isplitl [H5]; · iexact H5
    iexact H8
  iintro HO
  iapply (hear_step m K c (dues 3) (by decide) rfl) $$ [HO Hh]
  · iframe
    isplitr; · iexact Hr
    iexact Hlev
  iintro ⟨HO, Hi, Hb0, Hb1, Hb2⟩
  unfold xPts wPts
  iapply (wp_load 𝒱₀ (c : Thread nD τ) none Set.univ (m := wM) (Finset.subset_univ _)) $$ Hw; iintro Hw
  iapply (wp_load 𝒱₀ (c : Thread nD τ) none Set.univ (m := xM) (Finset.subset_univ _)) $$ Hx; iintro Hx
  rw [read_w, read_x]
  iapply (store_step m c (flip c 0) ((off1_eq c).trans (by rw [flip_zero])) (by rw [flip_zero]; rfl)) $$ [Hs]
  · iexact Hs
  iintro Hs
  iapply Hk
  iframe

/-- The second window: the device's own block sent to the three neighbours, and read. -/
theorem part2_run {α : Type} {Q : α → sProp 𝕄} (c : Dev nD) (v2 v4 v5 : BitVec 32)
    {k : (Σ' (_ : FVec F S256x256 .f32) (_ : FVec F S256x256 .f32), FVec F S256x256 .f32) → Prog (TpuEff nD τ sig (Elt F) Λ₀ .tc) α} :
    iprop(recs m K ∗ owing c (dues 3) ∗ toSend c 0 ∗ toSend c 1 ∗ toSend c 2 ∗ land c 0 ∗ land c 1 ∗ land c 2 ∗ held m c (slot (flip c 0)) fullShare)
      ⊢ iprop(((owing c (dues 6) ∗ sending c 0 ∗ sending c 1 ∗ sending c 2 ∗ held m c (slot (flip c 0)) fullShare.right.right) -∗ run c (k ⟨k0_pay3 (k0_pay1 (wstg m c)) (gblk m (flip c 0)), k0_pay4 (k0_pay1 (wstg m c)) (gblk m (flip c 0)), k0_pay5 (k0_pay1 (wstg m c)) (gblk m (flip c 0))⟩) Q)
          -∗ run c (k0_part2 xM (Memref.isWhole_whole _) wM (Memref.isWhole_whole _) oM (Memref.isWhole_whole _) gM (Memref.isWhole_whole _) cc0_scratch1 cc0_scratch2 c v2 v4 v5 (k0_pay1 (wstg m c)) >>= k) Q) := by
  rw [k0_part2_eq_skeleton]; unfold k0_part2_skel
  simp only [Prog.lift, Prog.bind_op, Prog.bind_ret, Prog.pure_eq_ret]
  iintro ⟨#Hr, HO, T0, T1, T2, L0, L1, L2, H⟩ Hk
  ihave H' := (own_parted m c).1 $$ H
  icases H' with ⟨⟨S0, S1⟩, S2, H⟩
  iapply (send_step m K c 0 (dues 4) (dev4_eq c) (off2_eq0 c) rfl rfl rfl rfl) $$ [HO T0 L0 S0]
  · isplitr; · iexact Hr
    isplitl [HO]; · iexact HO
    isplitl [T0]; · iexact T0
    isplitl [L0]; · iexact L0
    iexact S0
  iintro ⟨HO, W0⟩
  iapply (send_step m K c 1 (dues 5) (dev5_eq c) (off2_eq1 c) rfl rfl rfl rfl) $$ [HO T1 L1 S1]
  · isplitr; · iexact Hr
    isplitl [HO]; · iexact HO
    isplitl [T1]; · iexact T1
    isplitl [L1]; · iexact L1
    iexact S1
  iintro ⟨HO, W1⟩
  iapply (send_step m K c 2 (dues 6) (dev6_eq c) (off2_eq2 c) rfl rfl rfl rfl) $$ [HO T2 L2 S2]
  · isplitr; · iexact Hr
    isplitl [HO]; · iexact HO
    isplitl [T2]; · iexact T2
    isplitl [L2]; · iexact L2
    iexact S2
  iintro ⟨HO, W2⟩
  iapply (read_step m c (flip c 0) fullShare.right.right (off1_eq c)) $$ [H]
  · iexact H
  iintro H
  iapply Hk
  isplitl [HO]; · iexact HO
  isplitl [W0]; · iexact W0
  isplitl [W1]; · iexact W1
  isplitl [W2]; · iexact W2
  iexact H

/-- The third window: the device's own rows of the result; the first arrival passed on. -/
theorem part3_run {α : Type} {Q : α → sProp 𝕄} (c : Dev nD) (v2 v3 v4 : BitVec 32)
    {k : PUnit → Prog (TpuEff nD τ sig (Elt F) Λ₀ .tc) α} :
    iprop(recs m K ∗ levAts L lv ∗ owing c (dues 6) ∗ outs m c [] ∗ toRecv c 1 ∗ toSend c 3 ∗ land c 3)
      ⊢ iprop(((owing c (dues 7) ∗ outs m c [flip c 0] ∗ idle c (.inr (.inr 1)) ∗ sending c 3 ∗ spare m c 3) -∗ run c (k ⟨⟩) Q)
          -∗ run c (k0_part3 xM (Memref.isWhole_whole _) wM (Memref.isWhole_whole _) oM (Memref.isWhole_whole _) gM (Memref.isWhole_whole _) cc0_scratch1 cc0_scratch2 c v2 v3 v4 (k0_pay3 (k0_pay1 (wstg m c)) (gblk m (flip c 0))) (k0_pay4 (k0_pay1 (wstg m c)) (gblk m (flip c 0))) (k0_pay5 (k0_pay1 (wstg m c)) (gblk m (flip c 0))) >>= k) Q) := by
  rw [k0_part3_eq_skeleton]; unfold k0_part3_skel
  simp only [Prog.lift, Prog.bind_op, Prog.bind_ret, Prog.pure_eq_ret]
  iintro ⟨#Hr, #Hlev, HO, Ho, R1, T3, L3⟩ Hk
  iapply (put_step m c (flip c 0) [] (off3_eq c) rfl) $$ [Ho]
  · iexact Ho
  iintro Ho
  iapply (recv_step m K c 1 (dues 6) (by decide) rfl rfl) $$ [HO R1]
  · isplitr; · iexact Hr
    isplitr; · iexact Hlev
    isplitl [HO]; · iexact HO
    iexact R1
  iintro ⟨HO, I1, P1⟩
  ihave H := (relay m c 3 (by decide)) $$ [P1]
  · iexact P1
  icases H with ⟨S3, V3⟩
  iapply (send_step m K c 3 (dues 7) (dev7_eq c) (off4_eq3 c) rfl rfl rfl rfl) $$ [HO T3 L3 S3]
  · isplitr; · iexact Hr
    isplitl [HO]; · iexact HO
    isplitl [T3]; · iexact T3
    isplitl [L3]; · iexact L3
    iexact S3
  iintro ⟨HO, W3⟩
  iapply Hk
  isplitl [HO]; · iexact HO
  isplitl [Ho]; · iexact Ho
  isplitl [I1]; · iexact I1
  isplitl [W3]; · iexact W3
  iexact V3

/-- The fourth window: the second arrival passed on, and the third awaited. -/
theorem part4_run {α : Type} {Q : α → sProp 𝕄} (c : Dev nD) (v3 v4 v5 : BitVec 32)
    {k : PUnit → Prog (TpuEff nD τ sig (Elt F) Λ₀ .tc) α} :
    iprop(recs m K ∗ levAts L lv ∗ owing c (dues 7) ∗ toRecv c 2 ∗ toSend c 4 ∗ land c 4 ∗ toRecv c 0)
      ⊢ iprop(((owing c (dues 8) ∗ idle c (.inr (.inr 2)) ∗ sending c 4 ∗ spare m c 4 ∗ idle c (.inr (.inr 0)) ∗ rcvPay m c 0) -∗ run c (k ⟨⟩) Q)
          -∗ run c (k0_part4 xM (Memref.isWhole_whole _) wM (Memref.isWhole_whole _) oM (Memref.isWhole_whole _) gM (Memref.isWhole_whole _) cc0_scratch1 cc0_scratch2 c v3 v4 v5 >>= k) Q) := by
  rw [k0_part4_eq_skeleton]; unfold k0_part4_skel
  simp only [Prog.lift, Prog.bind_op, Prog.bind_ret, Prog.pure_eq_ret]
  iintro ⟨#Hr, #Hlev, HO, R2, T4, L4, R0⟩ Hk
  iapply (recv_step m K c 2 (dues 7) (by decide) rfl rfl) $$ [HO R2]
  · isplitr; · iexact Hr
    isplitr; · iexact Hlev
    isplitl [HO]; · iexact HO
    iexact R2
  iintro ⟨HO, I2, P2⟩
  ihave H := (relay m c 4 (by decide)) $$ [P2]
  · iexact P2
  icases H with ⟨S4, V4⟩
  iapply (send_step m K c 4 (dues 8) (dev8_eq c) (off4_eq4 c) rfl rfl rfl rfl) $$ [HO T4 L4 S4]
  · isplitr; · iexact Hr
    isplitl [HO]; · iexact HO
    isplitl [T4]; · iexact T4
    isplitl [L4]; · iexact L4
    iexact S4
  iintro ⟨HO, W4⟩
  iapply (recv_step m K c 0 (dues 8) (by decide) rfl rfl) $$ [HO R0]
  · isplitr; · iexact Hr
    isplitr; · iexact Hlev
    isplitl [HO]; · iexact HO
    iexact R0
  iintro ⟨HO, I0, P0⟩
  iapply Hk
  isplitl [HO]; · iexact HO
  isplitl [I2]; · iexact I2
  isplitl [W4]; · iexact W4
  isplitl [V4]; · iexact V4
  isplitl [I0]; · iexact I0
  iexact P0

/-- The fifth window: the third arrival passed on, its rows of the result, and the first arrival read. -/
theorem part5_run {α : Type} {Q : α → sProp 𝕄} (c : Dev nD) (v2 : BitVec 32)
    {k : (Σ' (_ : BitVec 32) (_ : BitVec 32) (_ : FVec F S256x256 .f32) (_ : FVec F S256x256 .f32), FVec F S256x256 .f32) → Prog (TpuEff nD τ sig (Elt F) Λ₀ .tc) α} :
    iprop(recs m K ∗ owing c (dues 8) ∗ rcvPay m c 0 ∗ toSend c 5 ∗ land c 5 ∗ spare m c 3 ∗ outs m c [flip c 0])
      ⊢ iprop((∀ v130 v131, (owing c (dues 9) ∗ sending c 5 ∗ spare m c 5 ∗ spare m c 3 ∗ outs m c [flip c 1, flip c 0]) -∗ run c (k ⟨v130, v131, k0_pay8 (k0_pay1 (wstg m c)) (gblk m (flip c 3)), k0_pay9 (k0_pay1 (wstg m c)) (gblk m (flip c 3)), k0_pay10 (k0_pay1 (wstg m c)) (gblk m (flip c 3))⟩) Q)
          -∗ run c (k0_part5 xM (Memref.isWhole_whole _) wM (Memref.isWhole_whole _) oM (Memref.isWhole_whole _) gM (Memref.isWhole_whole _) cc0_scratch1 cc0_scratch2 c v2 (k0_pay1 (wstg m c)) >>= k) Q) := by
  rw [k0_part5_eq_skeleton]; unfold k0_part5_skel
  simp only [Prog.lift, Prog.bind_op, Prog.bind_ret, Prog.pure_eq_ret]
  iintro ⟨#Hr, HO, P0, T5, L5, V3, Ho⟩ Hk
  ihave H := (relay m c 5 (by decide)) $$ [P0]
  · iexact P0
  icases H with ⟨S5, V5⟩
  iapply (send_step m K c 5 (dues 9) (dev9_eq c) (off4_eq5 c) rfl rfl rfl rfl) $$ [HO T5 L5 S5]
  · isplitr; · iexact Hr
    isplitl [HO]; · iexact HO
    isplitl [T5]; · iexact T5
    isplitl [L5]; · iexact L5
    iexact S5
  iintro ⟨HO, W5⟩
  iapply (spare_read m c (flip c 1) 5 rfl (off5_eq1 c)) $$ [V5]
  · iexact V5
  iintro V5
  iapply (put_step m c (flip c 1) [flip c 0] (off6_eq1 c) rfl) $$ [Ho]
  · iexact Ho
  iintro Ho
  iapply (spare_read m c (flip c 3) 3 rfl (off5_eq3 c)) $$ [V3]
  · iexact V3
  iintro V3
  iapply Hk
  isplitl [HO]; · iexact HO
  isplitl [W5]; · iexact W5
  isplitl [V5]; · iexact V5
  isplitl [V3]; · iexact V3
  iexact Ho

/-- The sixth window: two more blocks of the result. -/
theorem part6_run {α : Type} {Q : α → sProp 𝕄} (c : Dev nD) (v2 v4 v130 v131 : BitVec 32)
    {k : PUnit → Prog (TpuEff nD τ sig (Elt F) Λ₀ .tc) α} :
    iprop(spare m c 4 ∗ outs m c [flip c 1, flip c 0])
      ⊢ iprop(((spare m c 4 ∗ outs m c [flip c 4, flip c 3, flip c 1, flip c 0]) -∗ run c (k ⟨⟩) Q)
          -∗ run c (k0_part6 xM (Memref.isWhole_whole _) wM (Memref.isWhole_whole _) oM (Memref.isWhole_whole _) gM (Memref.isWhole_whole _) cc0_scratch1 cc0_scratch2 c v2 v4 (k0_pay1 (wstg m c)) v130 v131 (k0_pay8 (k0_pay1 (wstg m c)) (gblk m (flip c 3))) (k0_pay9 (k0_pay1 (wstg m c)) (gblk m (flip c 3))) (k0_pay10 (k0_pay1 (wstg m c)) (gblk m (flip c 3))) >>= k) Q) := by
  rw [k0_part6_eq_skeleton]; unfold k0_part6_skel
  simp only [Prog.lift, Prog.bind_op, Prog.bind_ret, Prog.pure_eq_ret]
  iintro ⟨V4, Ho⟩ Hk
  iapply (put_step m c (flip c 3) [flip c 1, flip c 0] (off6_eq3 c) rfl) $$ [Ho]
  · iexact Ho
  iintro Ho
  iapply (spare_read m c (flip c 4) 4 rfl (off5_eq4 c)) $$ [V4]
  · iexact V4
  iintro V4
  iapply (put_step m c (flip c 4) [flip c 3, flip c 1, flip c 0] (off6_eq4 c) rfl) $$ [Ho]
  · iexact Ho
  iintro Ho
  iapply Hk
  isplitl [V4]; · iexact V4
  iexact Ho

/-- The seventh window: the first rows of the last round sent, and an arrival awaited. -/
theorem part7_run {α : Type} {Q : α → sProp 𝕄} (c : Dev nD) (v3 v4 v5 : BitVec 32)
    {k : PUnit → Prog (TpuEff nD τ sig (Elt F) Λ₀ .tc) α} :
    iprop(recs m K ∗ levAts L lv ∗ owing c (dues 9) ∗ toRecv c 4 ∗ toSend c 6 ∗ land c 6 ∗ toRecv c 5)
      ⊢ iprop(((owing c (dues 10) ∗ idle c (.inr (.inr 4)) ∗ sending c 6 ∗ spare m c 6 ∗ idle c (.inr (.inr 5)) ∗ rcvPay m c 5) -∗ run c (k ⟨⟩) Q)
          -∗ run c (k0_part7 xM (Memref.isWhole_whole _) wM (Memref.isWhole_whole _) oM (Memref.isWhole_whole _) gM (Memref.isWhole_whole _) cc0_scratch1 cc0_scratch2 c v3 v4 v5 >>= k) Q) := by
  rw [k0_part7_eq_skeleton]; unfold k0_part7_skel
  simp only [Prog.lift, Prog.bind_op, Prog.bind_ret, Prog.pure_eq_ret]
  iintro ⟨#Hr, #Hlev, HO, R4, T6, L6, R5⟩ Hk
  iapply (recv_step m K c 4 (dues 9) (by decide) rfl rfl) $$ [HO R4]
  · isplitr; · iexact Hr
    isplitr; · iexact Hlev
    isplitl [HO]; · iexact HO
    iexact R4
  iintro ⟨HO, I4, P4⟩
  ihave H := (relay m c 6 (by decide)) $$ [P4]
  · iexact P4
  icases H with ⟨S6, V6⟩
  iapply (send_step m K c 6 (dues 10) (dev10_eq c) (off7_eq6 c) rfl rfl rfl rfl) $$ [HO T6 L6 S6]
  · isplitr; · iexact Hr
    isplitl [HO]; · iexact HO
    isplitl [T6]; · iexact T6
    isplitl [L6]; · iexact L6
    iexact S6
  iintro ⟨HO, W6⟩
  iapply (recv_step m K c 5 (dues 10) (by decide) rfl rfl) $$ [HO R5]
  · isplitr; · iexact Hr
    isplitr; · iexact Hlev
    isplitl [HO]; · iexact HO
    iexact R5
  iintro ⟨HO, I5, P5⟩
  iapply Hk
  isplitl [HO]; · iexact HO
  isplitl [I4]; · iexact I4
  isplitl [W6]; · iexact W6
  isplitl [V6]; · iexact V6
  isplitl [I5]; · iexact I5
  iexact P5

/-- The eighth window: the other rows of the last round sent, and an arrival read. -/
theorem part8_run {α : Type} {Q : α → sProp 𝕄} (c : Dev nD) (v2 v3 v5 : BitVec 32)
    {k : (Σ' (_ : BitVec 32) (_ : BitVec 32) (_ : BitVec 32) (_ : FVec F S256x256 .f32) (_ : FVec F S256x256 .f32), FVec F S256x256 .f32) → Prog (TpuEff nD τ sig (Elt F) Λ₀ .tc) α} :
    iprop(recs m K ∗ levAts L lv ∗ owing c (dues 10) ∗ rcvPay m c 5 ∗ toSend c 7 ∗ land c 7 ∗ toRecv c 3 ∗ toSend c 8 ∗ land c 8)
      ⊢ iprop((∀ v249 v250 v251, (owing c (dues 12) ∗ sending c 7 ∗ spare m c 7 ∗ idle c (.inr (.inr 3)) ∗ sending c 8 ∗ spare m c 8) -∗ run c (k ⟨v249, v250, v251, k0_pay13 (k0_pay1 (wstg m c)) (gblk m (flip c 2)), k0_pay14 (k0_pay1 (wstg m c)) (gblk m (flip c 2)), k0_pay15 (k0_pay1 (wstg m c)) (gblk m (flip c 2))⟩) Q)
          -∗ run c (k0_part8 xM (Memref.isWhole_whole _) wM (Memref.isWhole_whole _) oM (Memref.isWhole_whole _) gM (Memref.isWhole_whole _) cc0_scratch1 cc0_scratch2 c v2 v3 v5 (k0_pay1 (wstg m c)) >>= k) Q) := by
  rw [k0_part8_eq_skeleton]; unfold k0_part8_skel
  simp only [Prog.lift, Prog.bind_op, Prog.bind_ret, Prog.pure_eq_ret]
  iintro ⟨#Hr, #Hlev, HO, P5, T7, L7, R3, T8, L8⟩ Hk
  ihave H := (relay m c 7 (by decide)) $$ [P5]
  · iexact P5
  icases H with ⟨S7, V7⟩
  iapply (send_step m K c 7 (dues 11) (dev11_eq c) (off8_eq7 c) rfl rfl rfl rfl) $$ [HO T7 L7 S7]
  · isplitr; · iexact Hr
    isplitl [HO]; · iexact HO
    isplitl [T7]; · iexact T7
    isplitl [L7]; · iexact L7
    iexact S7
  iintro ⟨HO, W7⟩
  iapply (recv_step m K c 3 (dues 11) (by decide) rfl rfl) $$ [HO R3]
  · isplitr; · iexact Hr
    isplitr; · iexact Hlev
    isplitl [HO]; · iexact HO
    iexact R3
  iintro ⟨HO, I3, P3⟩
  ihave H := (relay m c 8 (by decide)) $$ [P3]
  · iexact P3
  icases H with ⟨S8, V8⟩
  iapply (send_step m K c 8 (dues 12) (dev12_eq c) (off9_eq8 c) rfl rfl rfl rfl) $$ [HO T8 L8 S8]
  · isplitr; · iexact Hr
    isplitl [HO]; · iexact HO
    isplitl [T8]; · iexact T8
    isplitl [L8]; · iexact L8
    iexact S8
  iintro ⟨HO, W8⟩
  iapply (spare_read m c (flip c 2) 8 rfl (off5_eq2 c)) $$ [V8]
  · iexact V8
  iintro V8
  iapply Hk
  isplitl [HO]; · iexact HO
  isplitl [W7]; · iexact W7
  isplitl [V7]; · iexact V7
  isplitl [I3]; · iexact I3
  isplitl [W8]; · iexact W8
  iexact V8

/-- The ninth window: two more blocks of the result, and an arrival read. -/
theorem part9_run {α : Type} {Q : α → sProp 𝕄} (c : Dev nD) (v249 v250 v251 : BitVec 32)
    {k : (Σ' (_ : FVec F S256x256 .f32) (_ : FVec F S256x256 .f32), FVec F S256x256 .f32) → Prog (TpuEff nD τ sig (Elt F) Λ₀ .tc) α} :
    iprop(spare m c 6 ∗ spare m c 7 ∗ outs m c [flip c 4, flip c 3, flip c 1, flip c 0])
      ⊢ iprop(((spare m c 6 ∗ spare m c 7 ∗ outs m c [flip c 7, flip c 2, flip c 4, flip c 3, flip c 1, flip c 0]) -∗ run c (k ⟨k0_pay18 (k0_pay1 (wstg m c)) (gblk m (flip c 5)), k0_pay19 (k0_pay1 (wstg m c)) (gblk m (flip c 5)), k0_pay20 (k0_pay1 (wstg m c)) (gblk m (flip c 5))⟩) Q)
          -∗ run c (k0_part9 xM (Memref.isWhole_whole _) wM (Memref.isWhole_whole _) oM (Memref.isWhole_whole _) gM (Memref.isWhole_whole _) cc0_scratch1 cc0_scratch2 c (k0_pay1 (wstg m c)) v249 v250 v251 (k0_pay13 (k0_pay1 (wstg m c)) (gblk m (flip c 2))) (k0_pay14 (k0_pay1 (wstg m c)) (gblk m (flip c 2))) (k0_pay15 (k0_pay1 (wstg m c)) (gblk m (flip c 2))) >>= k) Q) := by
  rw [k0_part9_eq_skeleton]; unfold k0_part9_skel
  simp only [Prog.lift, Prog.bind_op, Prog.bind_ret, Prog.pure_eq_ret]
  iintro ⟨V6, V7, Ho⟩ Hk
  iapply (put_step m c (flip c 2) [flip c 4, flip c 3, flip c 1, flip c 0] (off6_eq2 c) rfl) $$ [Ho]
  · iexact Ho
  iintro Ho
  iapply (spare_read m c (flip c 7) 6 rfl (off5_eq7 c)) $$ [V6]
  · iexact V6
  iintro V6
  iapply (put_step m c (flip c 7) [flip c 2, flip c 4, flip c 3, flip c 1, flip c 0] (off6_eq7 c) rfl) $$ [Ho]
  · iexact Ho
  iintro Ho
  iapply (spare_read m c (flip c 5) 7 rfl (off5_eq5 c)) $$ [V7]
  · iexact V7
  iintro V7
  iapply Hk
  isplitl [V6]; · iexact V6
  isplitl [V7]; · iexact V7
  iexact Ho

/-- The tenth window: one more block of the result, and two of the last three arrivals awaited. -/
theorem part10_run {α : Type} {Q : α → sProp 𝕄} (c : Dev nD) (v3 v4 v5 v251 : BitVec 32)
    {k : PUnit → Prog (TpuEff nD τ sig (Elt F) Λ₀ .tc) α} :
    iprop(recs m K ∗ levAts L lv ∗ owing c [] ∗ toRecv c 6 ∗ toRecv c 7 ∗ outs m c [flip c 7, flip c 2, flip c 4, flip c 3, flip c 1, flip c 0])
      ⊢ iprop(((owing c [] ∗ idle c (.inr (.inr 6)) ∗ rcvPay m c 6 ∗ idle c (.inr (.inr 7)) ∗ rcvPay m c 7 ∗ outs m c [flip c 5, flip c 7, flip c 2, flip c 4, flip c 3, flip c 1, flip c 0]) -∗ run c (k ⟨⟩) Q)
          -∗ run c (k0_part10 xM (Memref.isWhole_whole _) wM (Memref.isWhole_whole _) oM (Memref.isWhole_whole _) gM (Memref.isWhole_whole _) cc0_scratch1 cc0_scratch2 c v3 v4 v5 v251 (k0_pay18 (k0_pay1 (wstg m c)) (gblk m (flip c 5))) (k0_pay19 (k0_pay1 (wstg m c)) (gblk m (flip c 5))) (k0_pay20 (k0_pay1 (wstg m c)) (gblk m (flip c 5))) >>= k) Q) := by
  rw [k0_part10_eq_skeleton]; unfold k0_part10_skel
  simp only [Prog.lift, Prog.bind_op, Prog.bind_ret, Prog.pure_eq_ret]
  iintro ⟨#Hr, #Hlev, HO, R6, R7, Ho⟩ Hk
  iapply (put_step m c (flip c 5) [flip c 7, flip c 2, flip c 4, flip c 3, flip c 1, flip c 0] (off6_eq5 c) rfl) $$ [Ho]
  · iexact Ho
  iintro Ho
  iapply (recv_step m K c 6 (dues 12) (by decide) rfl rfl) $$ [HO R6]
  · isplitr; · iexact Hr
    isplitr; · iexact Hlev
    isplitl [HO]; · iexact HO
    iexact R6
  iintro ⟨HO, I6, P6⟩
  iapply (recv_step m K c 7 (dues 12) (by decide) rfl rfl) $$ [HO R7]
  · isplitr; · iexact Hr
    isplitr; · iexact Hlev
    isplitl [HO]; · iexact HO
    iexact R7
  iintro ⟨HO, I7, P7⟩
  iapply Hk
  isplitl [HO]; · iexact HO
  isplitl [I6]; · iexact I6
  isplitl [P6]; · iexact P6
  isplitl [I7]; · iexact I7
  isplitl [P7]; · iexact P7
  iexact Ho

/-- The eleventh window: the last arrival, the last block of the result, and the first copy's source back. -/
theorem part11_run {α : Type} {Q : α → sProp 𝕄} (c : Dev nD) (v2 : BitVec 32)
    {k : PUnit → Prog (TpuEff nD τ sig (Elt F) Λ₀ .tc) α} :
    iprop(recs m K ∗ levAts L lv ∗ owing c [] ∗ rcvPay m c 6 ∗ rcvPay m c 7 ∗ toRecv c 8 ∗ sending c 0 ∗ outs m c [flip c 5, flip c 7, flip c 2, flip c 4, flip c 3, flip c 1, flip c 0])
      ⊢ iprop(((owing c [] ∗ idle c (.inr (.inr 8)) ∗ held m c (slot (flip c 6)) fullShare ∗ idle c (.inr (.inl 0)) ∗ sndPay m c 0 ∗ outs m c [flip c 6, flip c 5, flip c 7, flip c 2, flip c 4, flip c 3, flip c 1, flip c 0]) -∗ run c (k ⟨⟩) Q)
          -∗ run c (k0_part11 xM (Memref.isWhole_whole _) wM (Memref.isWhole_whole _) oM (Memref.isWhole_whole _) gM (Memref.isWhole_whole _) cc0_scratch1 cc0_scratch2 c v2 (k0_pay1 (wstg m c)) >>= k) Q) := by
  rw [k0_part11_eq_skeleton]; unfold k0_part11_skel
  simp only [Prog.lift, Prog.bind_op, Prog.bind_ret, Prog.pure_eq_ret]
  iintro ⟨#Hr, #Hlev, HO, P6, P7, R8, W0, Ho⟩ Hk
  iapply (recv_step m K c 8 (dues 12) (by decide) rfl rfl) $$ [HO R8]
  · isplitr; · iexact Hr
    isplitr; · iexact Hlev
    isplitl [HO]; · iexact HO
    iexact R8
  iintro ⟨HO, I8, P8⟩
  ihave H := (pieces_in m c) $$ [P6 P7 P8]
  · isplitl [P6]; · iexact P6
    isplitl [P7]; · iexact P7
    iexact P8
  iapply (read_step m c (flip c 6) fullShare (off5_eq6 c)) $$ [H]
  · iexact H
  iintro H
  iapply (put_step m c (flip c 6) [flip c 5, flip c 7, flip c 2, flip c 4, flip c 3, flip c 1, flip c 0] (off6_eq6 c) rfl) $$ [Ho]
  · iexact Ho
  iintro Ho
  iapply (sent_step m K c 0 rfl rfl) $$ [HO W0]
  · isplitr; · iexact Hr
    isplitr; · iexact Hlev
    isplitl [HO]; · iexact HO
    iexact W0
  iintro ⟨HO, J0, S0⟩
  iapply Hk
  isplitl [HO]; · iexact HO
  isplitl [I8]; · iexact I8
  isplitl [H]; · iexact H
  isplitl [J0]; · iexact J0
  isplitl [S0]; · iexact S0
  iexact Ho

/-- The twelfth window: four more sources back. -/
theorem part12_run {α : Type} {Q : α → sProp 𝕄} (c : Dev nD)
    {k : PUnit → Prog (TpuEff nD τ sig (Elt F) Λ₀ .tc) α} :
    iprop(recs m K ∗ levAts L lv ∗ owing c [] ∗ sending c 1 ∗ sending c 2 ∗ sending c 3 ∗ sending c 4)
      ⊢ iprop(((owing c [] ∗ (idle c (.inr (.inl 1)) ∗ idle c (.inr (.inl 2)) ∗ idle c (.inr (.inl 3)) ∗ idle c (.inr (.inl 4))) ∗ sndPay m c 1 ∗ sndPay m c 2 ∗ sndPay m c 3 ∗ sndPay m c 4) -∗ run c (k ⟨⟩) Q)
          -∗ run c (k0_part12 xM (Memref.isWhole_whole _) wM (Memref.isWhole_whole _) oM (Memref.isWhole_whole _) gM (Memref.isWhole_whole _) cc0_scratch1 cc0_scratch2 c >>= k) Q) := by
  rw [k0_part12_eq_skeleton]; unfold k0_part12_skel
  simp only [Prog.lift, Prog.bind_op, Prog.bind_ret, Prog.pure_eq_ret]
  iintro ⟨#Hr, #Hlev, HO, W1, W2, W3, W4⟩ Hk
  iapply (sent_step m K c 1 rfl rfl) $$ [HO W1]
  · isplitr; · iexact Hr
    isplitr; · iexact Hlev
    isplitl [HO]; · iexact HO
    iexact W1
  iintro ⟨HO, J1, S1⟩
  iapply (sent_step m K c 2 rfl rfl) $$ [HO W2]
  · isplitr; · iexact Hr
    isplitr; · iexact Hlev
    isplitl [HO]; · iexact HO
    iexact W2
  iintro ⟨HO, J2, S2⟩
  iapply (sent_step m K c 3 rfl rfl) $$ [HO W3]
  · isplitr; · iexact Hr
    isplitr; · iexact Hlev
    isplitl [HO]; · iexact HO
    iexact W3
  iintro ⟨HO, J3, S3⟩
  iapply (sent_step m K c 4 rfl rfl) $$ [HO W4]
  · isplitr; · iexact Hr
    isplitr; · iexact Hlev
    isplitl [HO]; · iexact HO
    iexact W4
  iintro ⟨HO, J4, S4⟩
  iapply Hk
  isplitl [HO]; · iexact HO
  isplitl [J1 J2 J3 J4]
  · isplitl [J1]; · iexact J1
    isplitl [J2]; · iexact J2
    isplitl [J3]; · iexact J3
    iexact J4
  isplitl [S1]; · iexact S1
  isplitl [S2]; · iexact S2
  isplitl [S3]; · iexact S3
  iexact S4

end

end Cert.KernelIdeal.Gather

end

end
-- ==== Proof.KernelIdealRun.lean ====
/-
# One device's whole run of the gather

The windows one after the other, the last four sources awaited, and the gathered array put together again.
-/
module

public import proofs.«01_k».proof.Proof.KernelIdealBody

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- One thing for each direction, and one for each copy, written out. -/
theorem each_dir (P : Fin 3 → sProp 𝕄) : bigSep Finset.univ P = iprop(P 0 ∗ P 1 ∗ P 2) := by
  rw [bigSep_univ_eq_bigSepL [0, 1, 2] (by decide) (by decide)]; rfl
omit [FloatOps F] in
theorem each_copy (P : Fin 9 → sProp 𝕄) :
    bigSep Finset.univ P = iprop(P 0 ∗ P 1 ∗ P 2 ∗ P 3 ∗ P 4 ∗ P 5 ∗ P 6 ∗ P 7 ∗ P 8) := by
  rw [bigSep_univ_eq_bigSepL [0, 1, 2, 3, 4, 5, 6, 7, 8] (by decide) (by decide)]; rfl

/-- The finished result on device `c`. -/
def oPts (c : Dev nD) : sProp 𝕄 := ((c : Thread nD τ).loc cc0_stg2_0) ↦{fullShare} outAt m c

/-- With all eight blocks written the result is finished. -/
theorem outs_all (c : Dev nD) :
    outs m c [flip c 6, flip c 5, flip c 7, flip c 2, flip c 4, flip c 3, flip c 1, flip c 0] ⊢ oPts m c := by
  unfold outs oPts
  iintro ⟨%f, %hf, H⟩
  have h : f = outAt m c := funext fun i => hf i (by
    obtain ⟨k, hk⟩ := exists_flip c (rowDev i)
    rw [hk]
    have hm : ∀ k : Fin 8, k ∈ ([6, 5, 7, 2, 4, 3, 1, 0] : List (Fin 8)) := by decide
    exact List.mem_map_of_mem (f := flip c) (hm k))
  subst h
  iexact H

/-- The own slot together again once its three copies are done with it. -/
theorem own_joined (c : Dev nD) :
    iprop(sndPay m c 0 ∗ sndPay m c 1 ∗ sndPay m c 2 ∗ held m c (slot (flip c 0)) fullShare.right.right) ⊢ held m c (slot (flip c 0)) fullShare := by
  refine BIBase.Entails.trans ?_ (own_parted m c).2
  iintro ⟨H0, H1, H2, H⟩
  isplitl [H0 H1]
  · isplitl [H0]; · iexact H0
    iexact H1
  isplitl [H2]; · iexact H2
  iexact H

section
variable (K : Dev nD × Cix → ℕ)

/-- One device's run: from its tokens, its blocks of `x` and `w` and arrays at any contents, to the finished result, with every
    semaphore at rest and nothing owed. -/
theorem body_run (c : Dev nD) (Q : PUnit → sProp 𝕄) :
    iprop(recs m K ∗ levAts L lv ∗ owing c pays ∗ bigSep Finset.univ (toCall (F := F) c) ∗ toHear c ∗ bigSep Finset.univ (toSend (F := F) c)
        ∗ bigSep Finset.univ (toRecv (F := F) c) ∗ free c Finset.univ ∗ xPts m c ∗ wPts m c ∗ outs m c [])
      ⊢ iprop(((owing c [] ∗ idle c (.inl ()) ∗ (bigSep Finset.univ fun j => idle (F := F) c (.inr (.inl j))) ∗ (bigSep Finset.univ fun j => idle (F := F) c (.inr (.inr j)))
            ∗ free c Finset.univ ∗ xPts m c ∗ wPts m c ∗ oPts m c) -∗ Q ⟨⟩)
          -∗ run c (cc0_body xM (Memref.isWhole_whole _) wM (Memref.isWhole_whole _) oM (Memref.isWhole_whole _) gM (Memref.isWhole_whole _) cc0_scratch1 cc0_scratch2) Q) := by
  rw [cc0_body_eq_skeleton]; unfold cc0_body_skel
  rw [each_dir, each_copy, each_copy, each_copy, each_copy]
  iintro ⟨#Hr, #Hlev, HO, ⟨C0, C1, C2⟩, Hh, ⟨T0, T1, T2, T3, T4, T5, T6, T7, T8⟩, ⟨R0, R1, R2, R3, R4, R5, R6, R7, R8⟩, Hg, Hx, Hw, Ho⟩ Hk
  iapply (part1_run m K c) $$ [HO C0 C1 C2 Hh Hg Hx Hw]
  · isplitr; · iexact Hr
    isplitr; · iexact Hlev
    isplitl [HO]; · iexact HO
    isplitl [C0]; · iexact C0
    isplitl [C1]; · iexact C1
    isplitl [C2]; · iexact C2
    isplitl [Hh]; · iexact Hh
    isplitl [Hg]; · iexact Hg
    isplitl [Hx]; · iexact Hx
    iexact Hw
  iintro %v2 %v3 %v4 %v5 ⟨HO, Ib, B0, B1, B2, H, Hx, Hw⟩
  unfold barPay
  icases B0 with ⟨L0, L3, L6⟩
  icases B1 with ⟨L1, L4, L7⟩
  icases B2 with ⟨L2, L5, L8⟩
  iapply (part2_run m K c v2 v4 v5) $$ [HO T0 T1 T2 L0 L1 L2 H]
  · isplitr; · iexact Hr
    isplitl [HO]; · iexact HO
    isplitl [T0]; · iexact T0
    isplitl [T1]; · iexact T1
    isplitl [T2]; · iexact T2
    isplitl [L0]; · iexact L0
    isplitl [L1]; · iexact L1
    isplitl [L2]; · iexact L2
    iexact H
  iintro ⟨HO, W0, W1, W2, H⟩
  iapply (part3_run m K c v2 v3 v4) $$ [HO Ho R1 T3 L3]
  · isplitr; · iexact Hr
    isplitr; · iexact Hlev
    isplitl [HO]; · iexact HO
    isplitl [Ho]; · iexact Ho
    isplitl [R1]; · iexact R1
    isplitl [T3]; · iexact T3
    iexact L3
  iintro ⟨HO, Ho, I1, W3, V3⟩
  iapply (part4_run m K c v3 v4 v5) $$ [HO R2 T4 L4 R0]
  · isplitr; · iexact Hr
    isplitr; · iexact Hlev
    isplitl [HO]; · iexact HO
    isplitl [R2]; · iexact R2
    isplitl [T4]; · iexact T4
    isplitl [L4]; · iexact L4
    iexact R0
  iintro ⟨HO, I2, W4, V4, I0, P0⟩
  iapply (part5_run m K c v2) $$ [HO P0 T5 L5 V3 Ho]
  · isplitr; · iexact Hr
    isplitl [HO]; · iexact HO
    isplitl [P0]; · iexact P0
    isplitl [T5]; · iexact T5
    isplitl [L5]; · iexact L5
    isplitl [V3]; · iexact V3
    iexact Ho
  iintro %v130 %v131 ⟨HO, W5, V5, V3, Ho⟩
  iapply (part6_run m c v2 v4 v130 v131) $$ [V4 Ho]
  · isplitl [V4]; · iexact V4
    iexact Ho
  iintro ⟨V4, Ho⟩
  iapply (part7_run m K c v3 v4 v5) $$ [HO R4 T6 L6 R5]
  · isplitr; · iexact Hr
    isplitr; · iexact Hlev
    isplitl [HO]; · iexact HO
    isplitl [R4]; · iexact R4
    isplitl [T6]; · iexact T6
    isplitl [L6]; · iexact L6
    iexact R5
  iintro ⟨HO, I4, W6, V6, I5, P5⟩
  iapply (part8_run m K c v2 v3 v5) $$ [HO P5 T7 L7 R3 T8 L8]
  · isplitr; · iexact Hr
    isplitr; · iexact Hlev
    isplitl [HO]; · iexact HO
    isplitl [P5]; · iexact P5
    isplitl [T7]; · iexact T7
    isplitl [L7]; · iexact L7
    isplitl [R3]; · iexact R3
    isplitl [T8]; · iexact T8
    iexact L8
  iintro %v249 %v250 %v251 ⟨HO, W7, V7, I3, W8, V8⟩
  iapply (part9_run m c v249 v250 v251) $$ [V6 V7 Ho]
  · isplitl [V6]; · iexact V6
    isplitl [V7]; · iexact V7
    iexact Ho
  iintro ⟨V6, V7, Ho⟩
  iapply (part10_run m K c v3 v4 v5 v251) $$ [HO R6 R7 Ho]
  · isplitr; · iexact Hr
    isplitr; · iexact Hlev
    isplitl [HO]; · iexact HO
    isplitl [R6]; · iexact R6
    isplitl [R7]; · iexact R7
    iexact Ho
  iintro ⟨HO, I6, P6, I7, P7, Ho⟩
  iapply (part11_run m K c v2) $$ [HO P6 P7 R8 W0 Ho]
  · isplitr; · iexact Hr
    isplitr; · iexact Hlev
    isplitl [HO]; · iexact HO
    isplitl [P6]; · iexact P6
    isplitl [P7]; · iexact P7
    isplitl [R8]; · iexact R8
    isplitl [W0]; · iexact W0
    iexact Ho
  iintro ⟨HO, I8, H6, J0, S0, Ho⟩
  iapply (part12_run m K c) $$ [HO W1 W2 W3 W4]
  · isplitr; · iexact Hr
    isplitr; · iexact Hlev
    isplitl [HO]; · iexact HO
    isplitl [W1]; · iexact W1
    isplitl [W2]; · iexact W2
    isplitl [W3]; · iexact W3
    iexact W4
  iintro ⟨HO, ⟨J1, J2, J3, J4⟩, S1, S2, S3, S4⟩
  simp only [Prog.lift, Prog.bind_op, Prog.bind_ret, Prog.pure_eq_ret]
  iapply (sent_step m K c 5 rfl rfl) $$ [HO W5]
  · isplitr; · iexact Hr
    isplitr; · iexact Hlev
    isplitl [HO]; · iexact HO
    iexact W5
  iintro ⟨HO, J5, S5⟩
  iapply (sent_step m K c 6 rfl rfl) $$ [HO W6]
  · isplitr; · iexact Hr
    isplitr; · iexact Hlev
    isplitl [HO]; · iexact HO
    iexact W6
  iintro ⟨HO, J6, S6⟩
  iapply (sent_step m K c 7 rfl rfl) $$ [HO W7]
  · isplitr; · iexact Hr
    isplitr; · iexact Hlev
    isplitl [HO]; · iexact HO
    iexact W7
  iintro ⟨HO, J7, S7⟩
  iapply (sent_step m K c 8 rfl rfl) $$ [HO W8]
  · isplitr; · iexact Hr
    isplitr; · iexact Hlev
    isplitl [HO]; · iexact HO
    iexact W8
  iintro ⟨HO, J8, S8⟩
  unfold run
  rw [wp_ret]; imodintro
  iapply Hk
  isplitl [HO]; · iexact HO
  isplitl [Ib]; · iexact Ib
  isplitl [J0 J1 J2 J3 J4 J5 J6 J7 J8]; · iframe
  isplitl [I0 I1 I2 I3 I4 I5 I6 I7 I8]; · iframe
  isplitl [H H6 S0 S1 S2 S3 S4 S5 S6 S7 S8 V3 V4 V5 V6 V7 V8]
  · ihave K0 := (own_joined m c) $$ [S0 S1 S2 H]
    · iframe
    ihave K3 := (unrelay m c 3 rfl) $$ [S3 V3]
    · iframe
    ihave K4 := (unrelay m c 4 rfl) $$ [S4 V4]
    · iframe
    ihave K1 := (unrelay m c 5 rfl) $$ [S5 V5]
    · iframe
    ihave K7 := (unrelay m c 6 rfl) $$ [S6 V6]
    · iframe
    ihave K5 := (unrelay m c 7 rfl) $$ [S7 V7]
    · iframe
    ihave K2 := (unrelay m c 8 rfl) $$ [S8 V8]
    · iframe
    iapply (join_all m c)
    isplitl [K0]; · iexact K0
    isplitl [K1]; · iexact K1
    isplitl [K2]; · iexact K2
    isplitl [K3]; · iexact K3
    isplitl [K4]; · iexact K4
    isplitl [K5]; · iexact K5
    isplitl [H6]; · iexact H6
    iexact K7
  isplitl [Hx]; · iexact Hx
  isplitl [Hw]; · iexact Hw
  iapply (outs_all m c) $$ Ho

end

end Cert.KernelIdeal.Gather

end

end
-- ==== Proof.KernelIdealDeal.lean ====
/-
# Dealing out the gather's tokens

What the launch mints for the gather's cells, and how it comes to the devices: every cell's invariant is known to all, every device
keeps its own places, and the token of a payment goes to the device that pays.
-/
module

public import proofs.«01_k».proof.Proof.KernelIdealRun

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- One thing for each of two kinds. -/
theorem each_kind {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

/-! ## Cells and tokens -/

theorem kcell_injective : Function.Injective kcell := fun a b h =>
  Prod.ext (Fin.ext (congrArg (fun g : GSem nD τ sig => g.1.1.val) h)) (csem_injective (congrArg Prod.snd h))

/-- All the gather's cells. -/
def allCells : Finset (GSem nD τ sig) := Finset.univ.map ⟨kcell, kcell_injective⟩

/-- The duties of one device's cells: three at the barrier, one at every other. -/
abbrev Duty : Type := Fin 3 ⊕ (Fin 9 ⊕ Fin 9)
/-- The cell of a duty, -/
def dutyCix : Duty → Cix
  | .inl _ => .inl ()
  | .inr k => .inr k
/-- its name there, -/
def dutyName : Duty → Fin 3
  | .inl d => d
  | .inr _ => 0
/-- and the mask from the device that pays it to the device whose cell it is. -/
def dutyMask : Duty → Fin 8
  | .inl d => dirMask d
  | .inr (.inl _) => 0
  | .inr (.inr j) => hop j

theorem duty_ext {x y : Duty} (hc : dutyCix x = dutyCix y) (hn : dutyName x = dutyName y) : x = y := by
  rcases x with d | k <;> rcases y with d' | k'
  · exact congrArg Sum.inl hn
  · cases hc
  · cases hc
  · exact congrArg Sum.inr (Sum.inr.inj hc)

def dutyAt (cx : Dev nD × Duty) : GSem nD τ sig × ℕ × Fin 3 := (kcell (cx.1, dutyCix cx.2), 0, dutyName cx.2)
theorem dutyAt_injective : Function.Injective dutyAt := by
  rintro ⟨c, x⟩ ⟨c', x'⟩ h
  have hk : (c, dutyCix x) = (c', dutyCix x') := kcell_injective (congrArg Prod.fst h)
  exact Prod.ext (Prod.mk.inj hk).1 (duty_ext (Prod.mk.inj hk).2 (congrArg (fun t : GSem nD τ sig × ℕ × Fin 3 => t.2.2) h))
/-- All the gather's duties. -/
def allDuties : Finset (GSem nD τ sig × ℕ × Fin 3) := Finset.univ.map ⟨dutyAt, dutyAt_injective⟩

/-- The token of duty `x` at device `c`'s cell. -/
def tok (c : Dev nD) (x : Duty) : sProp 𝕄 := dutyTok EG (kcell (c, dutyCix x)) 0 (dutyName x)

/-- What the launch mints for device `c`'s cells. -/
def minted (c : Dev nD) : sProp 𝕄 :=
  iprop((bigSep Finset.univ fun k : Cix => roundState EG (gRd m) (kcell (c, k)) 0)
    ∗ (bigSep Finset.univ fun k : Cix => atPos EG (kcell (c, k)) 0 ∅ 0) ∗ (bigSep Finset.univ fun k : Cix => reached EG (kcell (c, k)) 0)
    ∗ bigSep Finset.univ (tok (F := F) c))

omit [FloatOps F] in
theorem over_cells (Φ : GSem nD τ sig → sProp 𝕄) :
    bigSep allCells Φ = bigSep Finset.univ fun c : Dev nD => bigSep Finset.univ fun k : Cix => Φ (kcell (c, k)) := by
  unfold allCells; rw [bigSep_map, bigSep_univ_prod]; rfl
omit [FloatOps F] in
theorem over_duties : bigSep allDuties (fun x => (dutyTok EG x.1 x.2.1 x.2.2 : sProp 𝕄)) = bigSep Finset.univ fun c : Dev nD => bigSep Finset.univ (tok (F := F) c) := by
  unfold allDuties; rw [bigSep_map, bigSep_univ_prod]; rfl

/-- The launch's element for the gather is what it mints for every device. -/
theorem mint : BI.own ((EG (F := F)) (initOf allCells allDuties)) ⊢ (|==> bigSep Finset.univ (minted m) : sProp 𝕄) := by
  iintro H
  imod (Rounds.fund EG (gRd m) allCells allDuties) $$ H with ⟨Hst, Hre, Hat, Htok⟩
  imodintro
  unfold minted
  rw [bigSep_sep', bigSep_sep', bigSep_sep', ← over_cells (fun g => roundState EG (gRd m) g 0), ← over_cells (fun g => atPos EG g 0 ∅ 0),
    ← over_cells (fun g => reached EG g 0), ← over_duties]
  iframe

/-! ## Every cell's invariant -/

/-- The semaphores of a copy are the launch's own; the barrier is the runtime's. -/
abbrev osem : Fin 9 ⊕ Fin 9 → SemLoc sig := fun k => csem (.inr k)

/-- Device `c`'s semaphores at rest. -/
abbrev resting (c : Dev nD) : sProp 𝕄 := bigSep Finset.univ fun k : Cix => semVal (kcell (c, k)) 0

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The barrier's semaphore and the copies' own. -/
theorem resting_eq (c : Dev nD) : (resting c : sProp 𝕄)
    = iprop(unscopedSems0 c ∗ Pipeline.ownSems0 (Ix := Unit) (Name := ℕ) (U := UU) (Lvl := ℕ) (Val := Elt F) (τ := τ) osem c) := by
  unfold resting
  rw [unscoped_eq, each_kind, bigSep_univ_of_subsingleton ()]; rfl

/-- One cell, from its semaphore and its round's state, put under an invariant. -/
theorem cell_alloc (g : GSem nD τ sig) :
    iprop(semVal g 0 ∗ roundState EG (gRd m) g 0) ⊢ (|={Set.univ}=> iprop(∃ κ : ℕ, cellInv EG (gRd m) κ g) : sProp 𝕄) :=
  (Rounds.body_intro EG (gRd m) g).trans inv_alloc

/-- What device `c` has after its cells were put under invariants. -/
def opened (c : Dev nD) : sProp 𝕄 :=
  iprop((bigSep Finset.univ fun k : Cix => iprop(∃ κ : ℕ, cellInv EG (gRd m) κ (kcell (c, k))))
    ∗ (bigSep Finset.univ fun k : Cix => atPos EG (kcell (c, k)) 0 ∅ 0) ∗ (bigSep Finset.univ fun k : Cix => reached EG (kcell (c, k)) 0)
    ∗ bigSep Finset.univ (tok (F := F) c))

theorem open_cells (c : Dev nD) :
    iprop(Pipeline.ownSems0 (Ix := Unit) (Name := ℕ) (U := UU) (Lvl := ℕ) (Val := Elt F) (τ := τ) osem c ∗ unscopedSems0 c ∗ minted m c)
      ⊢ |={Set.univ}=> opened m c := by
  have hall : iprop(resting c ∗ bigSep Finset.univ fun k : Cix => roundState EG (gRd m) (kcell (c, k)) 0)
      ⊢ (|={Set.univ}=> bigSep Finset.univ fun k : Cix => iprop(∃ κ : ℕ, cellInv EG (gRd m) κ (kcell (c, k))) : sProp 𝕄) := by
    unfold resting
    rw [← bigSep_sep']
    exact (bigSep_mono fun k _ => cell_alloc m (kcell (c, k))).trans (bigSep_fupd _ _)
  unfold minted opened
  iintro ⟨Ho, Hu, Hst, Hrest⟩
  imod hall $$ [Ho Hu Hst] with Hinv
  · isplitl [Ho Hu]
    · rw [resting_eq]
      isplitl [Hu]; · iexact Hu
      iexact Ho
    iexact Hst
  imodintro
  isplitl [Hinv]; · iexact Hinv
  iexact Hrest

/-! ## To the devices that pay -/

/-- What stays with device `c`: its places at its cells and the tokens of the payments it makes. -/
def purse (c : Dev nD) : sProp 𝕄 :=
  iprop((bigSep Finset.univ fun k : Cix => atPos EG (kcell (c, k)) 0 ∅ 0) ∗ bigSep Finset.univ fun x : Duty => tok (F := F) (flip c (dutyMask x)) x)

/-- The tokens of all devices' cells are the tokens of all devices' payments. -/
theorem toks_round : (bigSep Finset.univ fun c : Dev nD => bigSep Finset.univ (tok (F := F) c))
    = bigSep Finset.univ fun c : Dev nD => bigSep Finset.univ fun x : Duty => (tok (flip c (dutyMask x)) x : sProp 𝕄) := by
  rw [bigSep_univ_comm (fun (c : Dev nD) (x : Duty) => tok (F := F) c x), bigSep_univ_comm (fun (c : Dev nD) (x : Duty) => tok (F := F) (flip c (dutyMask x)) x)]
  exact bigSep_congr fun x _ => bigSep_univ_equiv (flipE (dutyMask x)) (fun c : Dev nD => tok (F := F) c x)

/-- What device `c` starts its part of the gather from. -/
def ready (c : Dev nD) : sProp 𝕄 := iprop(∃ K, recs m K ∗ purse c)

/-- What is known to all goes to each. -/
theorem share_out (R : sProp 𝕄) [BI.Persistent R] (Φ Ψ : Dev nD → sProp 𝕄) (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem ready_intro (K : Dev nD × Cix → ℕ) (c : Dev nD) : iprop(recs m K ∗ purse c) ⊢ ready m c := by
  unfold ready
  iintro H
  iexists K; iexact H

theorem hand_over : bigSep Finset.univ (opened m) ⊢ bigSep Finset.univ (ready m) := by
  unfold opened
  rw [bigSep_sep', bigSep_sep', bigSep_sep', ← bigSep_univ_prod (fun ck : Dev nD × Cix => iprop(∃ κ : ℕ, cellInv EG (gRd m) κ (kcell ck))),
    ← bigSep_univ_prod (fun ck : Dev nD × Cix => (reached EG (kcell ck) 0 : sProp 𝕄)), toks_round]
  iintro ⟨HI, Hat, #HR, Htok⟩
  ihave HK := (BI.bigSep_exists_pi Finset.univ (fun (ck : Dev nD × Cix) (κ : ℕ) => (cellInv EG (gRd m) κ (kcell ck) : sProp 𝕄))) $$ HI
  icases HK with ⟨%K, #HI⟩
  iapply (share_out (recs m K) purse (ready m) (ready_intro m K))
  isplitr
  · unfold recs; rw [bigSep_sep']
    isplitr; · iexact HI
    iexact HR
  · unfold purse; rw [bigSep_sep']
    isplitl [Hat]; · iexact Hat
    iexact Htok

/-- All devices at once: from the semaphores and what was minted, every device ready. -/
theorem deal : (bigSep Finset.univ fun c => iprop(Pipeline.ownSems0 (Ix := Unit) (Name := ℕ) (U := UU) (Lvl := ℕ) (Val := Elt F) (τ := τ) osem c
      ∗ unscopedSems0 c ∗ minted m c) : sProp 𝕄) ⊢ |={Set.univ}=> bigSep Finset.univ (ready m) :=
  ((bigSep_mono fun c _ => open_cells m c).trans (bigSep_fupd _ _)).trans (BI.fupd_mono (hand_over m))

/-! ## The credit -/

/-- The cell a payment goes to, the mask to the device it goes to, and how much it is. -/
def payCix : Pay → Cix
  | .inl _ => .inl ()
  | .inr j => .inr (.inr j)
def payMask : Pay → Fin 8
  | .inl d => dirMask d
  | .inr j => hop j
def payAmt : Pay → ℕ
  | .inl _ => 1
  | .inr j => crd j

theorem bill_eq (c : Dev nD) (p : Pay) : bill c p = tallyAt (kcell (flip c (payMask p), payCix p)) () (payAmt p) := by
  rcases p with d | j <;> rfl

/-- Of one payment of every device, each cell of its kind gets exactly one. -/
theorem bill_sum (p : Pay) (b : Dev nD) (k : Cix) : ∑ c : Dev nD, bill c p (kcell (b, k)) () = if payCix p = k then payAmt p else 0 := by
  have h : ∀ c : Dev nD, bill c p (kcell (b, k)) () = if flip c (payMask p) = b then (if payCix p = k then payAmt p else 0) else 0 := by
    intro c
    rw [bill_eq, tallyAt_apply]
    by_cases hb : flip c (payMask p) = b
    · by_cases hk : payCix p = k
      · rw [if_pos hb, if_pos hk, hb, hk, if_pos ⟨rfl, rfl⟩]
      · rw [if_pos hb, if_neg hk, if_neg fun h' => hk (congrArg Prod.snd (kcell_injective h'.1)).symm]
    · rw [if_neg hb, if_neg fun h' => hb (congrArg Prod.fst (kcell_injective h'.1)).symm]
  rw [Finset.sum_congr rfl fun c _ => h c]
  refine (?_ : _ = _).trans (?_ : ∑ c : Dev nD, (if c = b then (if payCix p = k then payAmt p else 0) else 0) = _)
  · exact Equiv.sum_comp (flipE (payMask p)) (fun c => if c = b then (if payCix p = k then payAmt p else 0) else 0)
  · rw [Finset.sum_ite_eq' Finset.univ b, if_pos (Finset.mem_univ _)]

/-- What all devices together owe a cell. -/
theorem due_sum (b : Dev nD) (k : Cix) : ∀ l : List Pay,
    ∑ c : Dev nD, due c l (kcell (b, k)) () = (l.map fun p => if payCix p = k then payAmt p else 0).sum
  | [] => Finset.sum_const_zero
  | p :: l => by
    rw [List.map_cons, List.sum_cons, ← due_sum b k l, ← bill_sum p b k, Nat.add_comm, ← Finset.sum_add_distrib]
    rfl

/-- What a cell hears in all. -/
def total : Cix → ℕ
  | .inl _ => 3
  | .inr (.inl _) => 0
  | .inr (.inr j) => crd j

theorem total_eq (k : Cix) : (pays.map fun p => if payCix p = k then payAmt p else 0).sum = total k := by
  rcases k with u | j | j
  · rfl
  · simp [pays, payCix, total]
  · fin_cases j <;> simp [pays, payCix, payAmt, total]

theorem credit_eq (c : Dev nD) (k : Cix) :
    tallyOn (kcell (c, k)) (launchCredit (Pipeline.owing fun c => due c pays) 0 (kcell (c, k))) = (tallyAt (kcell (c, k)) () (total k) : CellTallies nD τ sig Unit) := by
  unfold tallyAt
  refine congrArg _ (Finsupp.ext fun u => ?_)
  cases u
  rw [Pipeline.launchCredit_owing, Finsupp.single_eq_same, due_sum, total_eq]

/-- The launch credits every device's barrier with three units and its receive cells with their copies. -/
theorem credit (c : Dev nD) : (Pipeline.launchCred (fun c => due c pays) c : sProp 𝕄)
    ⊢ iprop(cred (tallyAt (barCell c) () 3) ∗ bigSep Finset.univ fun j : Fin 9 => cred (tallyAt (rcvCell c j) () (crd j))) := by
  unfold Pipeline.launchCred
  refine BIBase.Entails.trans (BI.bigSep_subset (t := Finset.univ.map ⟨csem, csem_injective⟩) (Finset.subset_univ _)) ?_
  rw [bigSep_map]
  refine BIBase.Entails.trans (Entails.of_eq (bigSep_congr (Ψ := fun k : Cix => (cred (tallyAt (kcell (c, k)) () (total k)) : sProp 𝕄))
    fun k _ => congrArg cred (credit_eq c k))) ?_
  rw [each_kind, each_kind, bigSep_univ_of_subsingleton ()]
  exact sep_mono_right sep_elim_right

end Cert.KernelIdeal.Gather

end

end
-- ==== Proof.KernelIdealLaunch.lean ====
/-
# The launch of the gather

The eight devices' runs under the launch: every fair execution ends with the arguments unchanged, every semaphore at zero and the
result array at its computed contents.
-/
module

public import proofs.«01_k».proof.Proof.KernelIdealDeal
public import Idealize.ShloMosaic.Lib.Pipeline.CollectiveSegs

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: the memory `m`, every semaphore at zero. -/
def s₀ : MemSt nD τ sig (Elt F) := ⟨m, fun _ => 0, ρ⟩

/-! ## The pipeline's data -/

/-- What device `c`'s run starts from besides its arrays. -/
def start (c : Dev nD) : sProp 𝕄 :=
  iprop(ready m c ∗ (cred (tallyAt (barCell c) () 3) ∗ bigSep Finset.univ fun j : Fin 9 => cred (tallyAt (rcvCell c j) () (crd j))) ∗ levAts L lv)
def before (c : Dev nD) : sProp 𝕄 := iprop(start m c ∗ free c Finset.univ)
def afterwards (c : Dev nD) : sProp 𝕄 :=
  iprop(free c Finset.univ ∗ idle c (.inl ()) ∗ (bigSep Finset.univ fun j => idle (F := F) c (.inr (.inl j))) ∗ bigSep Finset.univ fun j => idle (F := F) c (.inr (.inr j)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => before m c
    | ⟨_ + 1, _⟩ => afterwards c
  q _ := fullShare
  owed t := match t with
    | ⟨0, _⟩ => due c pays
    | ⟨_ + 1, _⟩ => due c []

/-! ## The body -/

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A device's places and tokens, sorted by what they are for. -/
theorem purse_sorted (c : Dev nD) : iprop(purse c ∗ cred (tallyAt (barCell c) () 3) ∗ bigSep Finset.univ fun j : Fin 9 => cred (tallyAt (rcvCell c j) () (crd j)))
    ⊢ (iprop(bigSep Finset.univ (toCall c) ∗ toHear c ∗ bigSep Finset.univ (toSend c) ∗ bigSep Finset.univ (toRecv c)) : sProp 𝕄) := by
  unfold purse toHear
  rw [each_kind, each_kind, each_kind, each_kind, bigSep_univ_of_subsingleton ()]
  rw [show (toSend c : Fin 9 → sProp 𝕄) = fun j => iprop(dutyTok EG (sndCell c j) 0 0 ∗ dutyTok EG (rcvCell (flip c (hop j)) j) 0 0 ∗ atPos EG (sndCell c j) 0 ∅ 0) from rfl,
    show (toRecv c : Fin 9 → sProp 𝕄) = fun j => iprop(atPos EG (rcvCell c j) 0 ∅ 0 ∗ cred (tallyAt (rcvCell c j) () (crd j))) from rfl,
    bigSep_sep', bigSep_sep', bigSep_sep',
    show (fun j : Fin 9 => (tok (flip c (dutyMask (.inr (.inl j)))) (.inr (.inl j)) : sProp 𝕄)) = fun j => dutyTok EG (sndCell c j) 0 0 from
      funext fun j => by show tok (flip c 0) (.inr (.inl j)) = _; rw [flip_zero]; rfl]
  iintro ⟨⟨⟨Ab, As, Ar⟩, Tb, Ts, Tr⟩, Cb, Cr⟩
  isplitl [Tb]; · iexact Tb
  isplitl [Ab Cb]
  · isplitl [Ab]; · iexact Ab
    iexact Cb
  isplitl [Ts Tr As]
  · isplitl [Ts]; · iexact Ts
    isplitl [Tr]; · iexact Tr
    iexact As
  isplitl [Ar]; · iexact Ar
  iexact Cr

/-- A staging buffer of device `c` at contents `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop(before m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(afterwards c ∗ (dats m ρ 0 c).owesAt () t0_0.succ ∗ stg c cc0_stg0_0 (xstg m c) ∗ stg c cc0_stg1_0 (wstg m c) ∗ stg c cc0_stg2_0 (outAt m c))

theorem staged_x (c : Dev nD) (d) : (dats m ρ 0 c).before (0 : Fin 3) t0_0 d = xstg m c := by
  unfold Dat.before; rw [if_pos (fetch0_0 t0_0)]; rfl
theorem staged_w (c : Dev nD) (d) : (dats m ρ 0 c).before (1 : Fin 3) t0_0 d = wstg m c := by
  unfold Dat.before; rw [if_pos (fetch0_1 t0_0)]; rfl

set_option maxRecDepth 4000 in
/-- One device's run as the pipeline has it. -/
theorem body_ok (c : Dev nD) : bodyPre m ρ c ⊢ run c
    (cc0_body xM (Memref.isWhole_whole _) wM (Memref.isWhole_whole _) oM (Memref.isWhole_whole _) gM (Memref.isWhole_whole _) cc0_scratch1 cc0_scratch2)
    (fun _ => bodyPost m ρ c) := by
  unfold bodyPre before start ready stg
  iintro ⟨⟨⟨⟨%K, #Hr, Hp⟩, Hc, #Hlev⟩, Hg⟩, Ho, ⟨%d0, %f0, %h0, Hx⟩, ⟨%d1, %f1, %h1, Hw⟩, ⟨%d2, %f2, -, Hout⟩⟩
  rw [staged_x] at h0
  rw [staged_w] at h1
  subst h0; subst h1
  ihave Hs := (purse_sorted (F := F) c) $$ [Hp Hc]
  · isplitl [Hp]; · iexact Hp
    iexact Hc
  icases Hs with ⟨S1, S2, S3, S4⟩
  unfold Dat.owesAt Pipeline.owesWithin
  icases Ho with ⟨%W, -, HO⟩
  iapply (body_run m K c (fun _ => bodyPost m ρ c)) $$ [HO S1 S2 S3 S4 Hg Hx Hw Hout]
  · isplitr; · iexact Hr
    isplitr; · iexact Hlev
    isplitl [HO]; · unfold owing; iexists W; iexact HO
    isplitl [S1]; · iexact S1
    isplitl [S2]; · iexact S2
    isplitl [S3]; · iexact S3
    isplitl [S4]; · iexact S4
    isplitl [Hg]; · iexact Hg
    isplitl [Hx]; · unfold xPts; iexact Hx
    isplitl [Hw]; · unfold wPts; iexact Hw
    unfold outs; iexists f2
    isplitr; · ipureintro; intro i hi; exact absurd hi List.not_mem_nil
    iexact Hout
  iintro ⟨HO, I, J, R, Hg, Hx, Hw, Hout⟩
  unfold bodyPost afterwards stg Dat.owesAt Pipeline.owesWithin owing xPts wPts oPts
  icases HO with ⟨%W', HO⟩
  isplitl [I J R Hg]
  · isplitl [Hg]; · iexact Hg
    isplitl [I]; · iexact I
    isplitl [J]; · iexact J
    iexact R
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_stage]
  exact body_ok m ρ c

/-! ## The launch's conditions -/

theorem ownSemFacts : Pipeline.OwnSemFacts cfg0.spec osem := by decide

theorem share_eq (c : Dev nD) (w : Fin cfg0.W) : (dats m ρ 0 c).share w = fullShare := by unfold Dat.share; split <;> rfl

/-- The launch's ghost state. -/
def u₀ : UU := (initOf (Pipeline.cells cfgs cellOf_inj) (Pipeline.launchToks cfgs cellOf_inj), initOf allCells allDuties)

theorem start_intro (c : Dev nD) :
    iprop(Pipeline.unscopedRestP Pipeline.Prefetch.none cfg0.spec c (fun b => m ((c : Thread nD τ).loc b)) ∗ levAts L lv
        ∗ Pipeline.launchCred (fun c => due c pays) c ∗ prngReg c (ρ c) ∗ ready m c)
      ⊢ |={Set.univ}=> iprop(start m c ∗ emp) := by
  iintro ⟨-, Hlev, Hcr, -, HG⟩
  ihave Hc := (credit (F := F) c) $$ Hcr
  imodintro
  unfold start
  isplitl
  · isplitl [HG]; · iexact HG
    isplitl [Hc]; · iexact Hc
    iexact Hlev
  · iempintro

theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before free
  iintro ⟨Hs, -, Hr⟩
  isplitl [Hs]; · iexact Hs
  iexact Hr

theorem afterwards_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = afterwards c from rfl, scopedRest0_eq, unscoped_eq]
  unfold afterwards Pipeline.ownSems0 free idle
  rw [each_kind]
  iintro ⟨Hg, I, J, R⟩
  isplitl [I]; · iexact I
  isplitl [J R]
  · isplitl [J]; · iexact J
    iexact R
  iexact Hg

/-- Staging is waited on before or after all payments. -/
theorem waits (c : Dev nD) : (levAts L lv : sProp 𝕄) ⊢ Pipeline.cellsWaits cfgs (dats m ρ) () 0 c :=
  Pipeline.cellsWaits_intro cfgs (dats m ρ) () 0 c fun w s t => by
    have hs : lv ((c : Thread nD τ), .dma ((cfg0.win w).sem s)) () ≤ 0 := by
      have : ∀ (w : Fin 3) (s : Fin (spec0 w).nbuf), lv ((c : Thread nD τ), .dma ((spec0 w).sem s)) () = 0 := by
        intro w; fin_cases w <;> (intro s; fin_cases s; rfl)
      exact (this w s).le
    rcases t with ⟨_ | _, ht⟩
    · exact mayWait_due c _ pays 0 hs (by decide)
    · exact mayWait_due c _ [] 0 hs (by decide)

/-! ## The run -/

def finalA (c : Dev nD) (w : Fin cfg0.W) : Buf (Elt F) ((cfg0.win w).arr.view.loc (c : Thread nD τ)) := (dats m ρ 0 c).arrAt w cfg0.N

/-- Every array of every device as the pipeline leaves it. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every fair execution of the eight devices ends, with every array as the pipeline
    leaves it and every semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => due c pays) (howed₀ := fun _ => rfl) (howedN := fun _ => rfl)
    (L := L) (lv := lv) (hL := L_of_ne) (hwaits := waits m ρ)
    (G := minted m) (G' := ready m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := deal m)
    (hA := fun _ _ => rfl) (hpf := fun _ k => k.elim0)
    (X := start m) (Y := fun c => unscopedSems0 c) (Z := fun _ => iprop(emp))
    (hX := start_intro m ρ) (hin := before_intro m ρ) (hout := afterwards_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Gather

end

end
-- ==== Proof.KernelIdealResult.lean ====
/-
# What the arrays hold after the run

Every device's blocks of `x` and `w` are as they were, and its block of the result is what its run computed.
-/
module

public import proofs.«01_k».proof.Proof.KernelIdealLaunch

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each window's one block is its whole array. -/
theorem whole_x (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem whole_w (f : (main_arg1 : Ref sig .tc).ty.Contents (Elt F)) : (win0_1.blk (0 : Fin 1)).view.read (Elt F) f = f :=
  Memref.read_access_unit_zero (Elt F) main_arg1 (funext fun a => by fin_cases a <;> decide) (fun a => by fin_cases a <;> decide) f
theorem whole_o (f : (main_v1 : Ref sig .tc).ty.Contents (Elt F)) : (win0_2.blk (0 : Fin 1)).view.read (Elt F) f = f :=
  Memref.read_access_unit_zero (Elt F) main_v1 (funext fun a => by fin_cases a <;> decide) (fun a => by fin_cases a <;> decide) f

/-- What is staged is the whole block. -/
theorem xstg_eq (c : Dev nD) : xstg m c = m ((c : Thread nD τ).loc main_arg0) := whole_x _
theorem wstg_eq (c : Dev nD) : wstg m c = m ((c : Thread nD τ).loc main_arg1) := whole_w _

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _
/-- The result array ends at what the run left in its staging buffer. -/
theorem final_o (c : Dev nD) : finalA m ρ c (2 : Fin 3) = outAt m c := by
  refine (whole_o _).symm.trans ?_
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from flush0_2 _, if_pos rfl]
  exact View.read_write_univ _ _

/-- The kernel's run: the arguments unchanged, the result computed, every semaphore back at zero. -/
theorem kernel_run : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (final_o m ρ c), (h.1 c (0 : Fin 3)).trans (final_x m ρ c),
    (h.1 c (1 : Fin 3)).trans (final_w m ρ c)⟩, h.2⟩) (run_main m ρ)

end Cert.KernelIdeal.Gather

end

end
-- ==== Proof.Activation.lean ====
/-
# The activation on one element

Over the extended reals, multiplication is associative: the two orders in which the cube is multiplied out agree.
-/
module

public import Idealize.ShloMosaic.PureOps.Ideal.Laws

@[expose] public section

noncomputable section

namespace Cert.Activation

open Idealize.ShloMosaic

/-- The tanh form of the GELU of one product, the cube taken first. -/
def act (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The same with the coefficient multiplied in first. -/
theorem act_left (y : EReal) : Ideal.ofBits .f32 0x3F000000#32 * y * (Ideal.ofBits .f32 0x3F800000#32
    + Ideal.tanh (Ideal.ofBits .f32 0x3F4C422A#32 * (y + Ideal.ofBits .f32 0x3D372713#32 * y * y * y))) = act y := by
  unfold act
  simp only [mul_assoc]

end Cert.Activation

end

end
-- ==== Proof.KernelIdealValue.lean ====
/-
# What the kernel computes, read at an index

Over the extended reals, element `(r, c)` of a device's result is the activation of the product of row `r` of the
gathered `x` with column `c` of the device's `w`.
-/
module

public import proofs.«01_k».proof.Proof.KernelIdealResult
public import proofs.«01_k».proof.Proof.Activation
public import Idealize.ShloMosaic.Lib.ValueLayout
public import Idealize.ShloMosaic.Lib.MatmulPlain

@[expose] public section

noncomputable section

namespace Cert.KernelIdeal.Gather

open Cert.KernelIdeal Cert.KernelIdeal.Gen Cert.Activation Idealize.ShloMosaic Idealize.ShloMosaic.TcCoe Idealize.ShloMosaic.ValueIdx

/-- One block's product, before the activation. -/
def bprod (v : FVec Ideal S2048x256 .bf16) (b : FVec Ideal S1x256x2048 .bf16) : FVec Ideal S256x256 .f32 :=
  matmul dot_S256x2048_S2048x256_S256x256_1_0_0_1_n_n none (shapeCast S256x2048 b shapeCasts_S1x256x2048_S256x2048) v (constant S256x256 .f32 0x00000000#32)

/-- It at an index: the accumulator starts at zero. -/
theorem bprod_at (v : FVec Ideal S2048x256 .bf16) (b : FVec Ideal S1x256x2048 .bf16) (r c : Fin 256) :
    bprod v b (ix2 r c) = ∑ k : Fin 2048, b (ix3 (0 : Fin 1) r k) * v (ix2 k c) := by
  refine (Ideal.matmul_plain_apply none _ v _ r c).trans ?_
  rw [show constant (F := Ideal) S256x256 .f32 0x00000000#32 (ix2 r c) = 0 from Ideal.ofBits_zero_f32, zero_add]
  exact Finset.sum_congr rfl fun k _ => congrArg (· * v (ix2 k c)) (shapeCast_1ab_ab_apply b _ r k)

/-- A block's payload at an index. -/
theorem pay_at (v : FVec Ideal S2048x256 .bf16) (b : FVec Ideal S1x256x2048 .bf16) (r c : Fin 256) :
    k0_pay7 v b (ix2 r c) = act (∑ k : Fin 2048, b (ix3 (0 : Fin 1) r k) * v (ix2 k c)) :=
  ((show k0_pay7 v b (ix2 r c) = _ from rfl).trans (act_left (bprod v b (ix2 r c)))).trans (congrArg act (bprod_at v b r c))

/-- Casting `w` to its own shape changes nothing. -/
theorem castW (w : Vec Ideal S2048x256 .bf16) : k0_pay1 w = w := shapeCast_self _ _
/-- A slot holds the block it is filled from. -/
theorem castX (x : Vec Ideal S256x2048 .bf16) (r : Fin 256) (k : Fin 2048) : k0_pay2 x (ix3 (0 : Fin 1) r k) = x (ix2 r k) := by
  unfold k0_pay2
  simp only [shapeCast_self]
  exact shapeCast_ab_1ab_apply x _ 0 r k

variable (m : (ℓ : Loc nD τ sig) → Buf (Elt Ideal) ℓ)

/-- The arguments, as arrays of extended reals. -/
def xarr (c : Dev nD) : FVec Ideal S256x2048 .bf16 := m ((c : Thread nD τ).loc main_arg0)
def warr (c : Dev nD) : FVec Ideal S2048x256 .bf16 := m ((c : Thread nD τ).loc main_arg1)

/-- A device's result at an index. -/
theorem outAt_at (c : Dev nD) (i : S2048x256.Idx) :
    outAt m c i = act (∑ k : Fin 2048, xarr m (rowDev i) (ix2 (inBlk i 0) k) * warr m c (ix2 k (inBlk i 1))) := by
  refine (congrArg (oblk m c (rowDev i)) (eq_ix2 (inBlk i))).trans ?_
  refine (pay_at _ _ _ _).trans (congrArg act (Finset.sum_congr rfl fun k _ => ?_))
  refine congrArg₂ (· * ·) ?_ (congrFun ((castW _).trans (wstg_eq m c)) _)
  exact (castX _ _ k).trans (congrFun (xstg_eq m _) _)

end Cert.KernelIdeal.Gather

end

end
-- ==== Proof.ReferenceIdealResult.lean ====
/-
# What the reference computes

Its run, with every semaphore at zero at the end, and its result read at an index.
-/
module

public import proofs.«01_k».proof.Proof.Gen.ReferenceIdeal.Run
public import proofs.«01_k».proof.Proof.Activation
public import Idealize.ShloMosaic.Lib.StackMember

@[expose] public section

noncomputable section

namespace Cert.ReferenceIdeal.Whole

open Cert.ReferenceIdeal Cert.ReferenceIdeal.Gen Cert.Activation Idealize.ShloMosaic Idealize.ShloMosaic.TcCoe Idealize.SL.Sem Idealize.ShloMosaic.ValueIdx

/-- The product of the whole arrays, rounded as the reference rounds it. -/
def prod (X W : FVec Ideal S2048x2048 .bf16) : FVec Ideal S2048x2048 .f32 :=
  extf .f32 (truncf .bf16 (Host.dotGeneral dot_S2048x2048_S2048x2048_S2048x2048_1_0_0_1_n_n none X W) bitsLt_bf16_f32) bitsLt_bf16_f32

/-- The reference's result as a function of the whole arrays. -/
def result (X W : FVec Ideal S2048x2048 .bf16) : FVec Ideal S2048x2048 .f32 :=
  mulf (mulf (broadcastInDim S2048x2048 ![] bcast_S_S2048x2048 (constant S_ .f32 0x3F000000#32)) (prod X W))
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf (prod X W) (mulf (broadcastInDim S2048x2048 ![] bcast_S_S2048x2048 (constant S_ .f32 0x3D372713#32))
          (mulf (mulf (prod X W) (prod X W)) (prod X W)))))))

/-- A product at an index: both roundings are the identity over the extended reals. -/
theorem prod_at (X W : FVec Ideal S2048x2048 .bf16) (r c : Fin 2048) : prod X W (ix2 r c) = ∑ k : Fin 2048, X (ix2 r k) * W (ix2 k c) :=
  StackMember.dotGeneral_plain_apply none X W r c

/-- The result at an index is the activation of the product there. -/
theorem result_at (X W : FVec Ideal S2048x2048 .bf16) (r c : Fin 2048) :
    result X W (ix2 r c) = act (∑ k : Fin 2048, X (ix2 r k) * W (ix2 k c)) :=
  (show result X W (ix2 r c) = act (prod X W (ix2 r c)) from rfl).trans (congrArg act (prod_at X W r c))

/-- There is no semaphore to count: any counters are the zero counters. -/
theorem sems_zero (f g : GSem nD τ sig → Int) : f = g := by
  funext ⟨t, s⟩
  rcases s with s | s <;> exact s.elim0

variable (m : (ℓ : Loc nD τ sig) → Buf (Elt Ideal) ℓ) (ρ : Dev nD → PrngReg)

/-- The reference's run. -/
theorem reference_run : θ_run defs (onTc (τ := τ) (main (F := Ideal))) ⟨m, fun _ => 0, ρ⟩ (fun r => (∀ c : Dev nD,
      r.2.mem ((c.tc : Thread nD τ).loc main_v15) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨h, sems_zero _ _⟩) (Value.run m ρ)

end Cert.ReferenceIdeal.Whole

end

end
-- ==== Proof.Equation.lean ====
/-
# The equation

Device `c`'s result is block `c`, along the columns, of the reference's result on the whole arrays.
-/
module

public import proofs.«01_k».proof.Proof.KernelIdealValue
public import proofs.«01_k».proof.Proof.ReferenceIdealResult
public import Idealize.ShloMosaic.Lib.Layout

@[expose] public section

noncomputable section

namespace Cert.Equation

open Cert.KernelIdeal Cert.KernelIdeal.Gather Cert.Activation Idealize.ShloMosaic Idealize.ShloMosaic.TcCoe Idealize.ShloMosaic.ValueIdx

variable (m : (ℓ : Loc nD τ sig) → Buf (Elt Ideal) ℓ) (X W : FVec Ideal ⟨2, ![2048, 2048]⟩ .bf16)

/-- The kernel's result is the reference's, block by block. -/
theorem out_eq (hX : ∀ c : Dev nD, m ((c.tc : Thread nD τ).loc main_arg0) = Layout.block ⟨2, ![256, 2048]⟩ ⟨2, ![2048, 2048]⟩ 0 8 c X)
    (hW : ∀ c : Dev nD, m ((c.tc : Thread nD τ).loc main_arg1) = Layout.block ⟨2, ![2048, 256]⟩ ⟨2, ![2048, 2048]⟩ 1 8 c W) (c : Dev nD) :
    outAt m c = Layout.block ⟨2, ![2048, 256]⟩ ⟨2, ![2048, 2048]⟩ 1 8 c (Cert.ReferenceIdeal.Whole.result X W) := by
  funext i
  refine (outAt_at m c i).trans (Eq.trans (congrArg act ?_) ((congrArg (Cert.ReferenceIdeal.Whole.result X W) (eq_ix2 _)).trans
    (Cert.ReferenceIdeal.Whole.result_at X W _ _)).symm)
  refine Finset.sum_congr rfl fun k _ => ?_
  refine congrArg₂ (· * ·) ((congrFun (hX _) _).trans (congrArg X ?_)) ((congrFun (hW _) _).trans (congrArg W ?_))
  · funext a
    refine Fin.ext ?_
    fin_cases a
    · show (i 0).val / 256 * 256 + (i 0).val % 256 = (i 0).val
      omega
    · rfl
  · funext a
    refine Fin.ext ?_
    fin_cases a <;> rfl

end Cert.Equation

end

end
-- ==== Proof.lean ====
/-
# The claims

The three programs run with their arguments unchanged and every semaphore back at zero, and the kernel's result over
the extended reals is the reference's, each device holding its block of columns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelResult
public import proofs.«01_k».proof.Proof.Equation
public import Idealize.ShloMosaic.Adequacy
public import Idealize.ShloMosaic.Init

@[expose] public section

noncomputable section

namespace Cert.Proof

open Idealize.ShloMosaic Idealize.SL.Sem

/-- The kernel at its own instance: it runs, the arguments unchanged, every semaphore back at zero. -/
theorem kernel_frame : Cert.quiescent_Kernel (hKernel := Cert.Kernel.Gen.facts) := fun m g _ =>
  (θ_run Cert.Kernel.defs _ _).mono (fun _ h => ⟨fun c => (h.1 c).2, h.2⟩) (Cert.Kernel.Gather.kernel_run m g)

/-- The same over the extended reals. -/
theorem ideal_frame : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Gather.kernel_run m g)

/-- The reference runs the same way. -/
theorem reference_frame : Cert.quiescent_ReferenceIdeal (hReferenceIdeal := Cert.ReferenceIdeal.Gen.facts) := fun m g _ =>
  (θ_run Cert.ReferenceIdeal.defs _ _).mono (fun _ h => ⟨fun c => (h.1 c).2, h.2⟩) (Cert.ReferenceIdeal.Whole.reference_run m g)

/-- The kernel's result is the reference's, block by block. -/
theorem value : Cert.algebraic_KernelIdeal_ReferenceIdeal (hKernelIdeal := Cert.KernelIdeal.Gen.facts) (hReferenceIdeal := Cert.ReferenceIdeal.Gen.facts) :=
  fun m g m' g' _ hm => ⟨_,
    (θ_run Cert.KernelIdeal.defs _ _).mono (fun _ h c => ⟨(h.1 c).1.trans (Cert.Equation.out_eq m _ _ (fun c => (hm c).1) (fun c => (hm c).2) c), (h.1 c).2⟩)
      (Cert.KernelIdeal.Gather.kernel_run m g),
    (θ_run Cert.ReferenceIdeal.defs _ _).mono (fun _ h => h.1 0) (Cert.ReferenceIdeal.Whole.reference_run m' g')⟩

/-- All the claims together. -/
theorem claim : Cert.Claim := ⟨Cert.Kernel.Gen.facts, Cert.KernelIdeal.Gen.facts, Cert.ReferenceIdeal.Gen.facts,
  kernel_frame, ideal_frame, reference_frame, trivial, value⟩

end Cert.Proof

end
